-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v104)) (v2 : (c : Dev Cert.KernelIdeal.nD) → Buf (Elt Ideal) ((c.tc : Thread Cert.KernelIdeal.nD Cert.KernelIdeal.τ).loc Cert.KernelIdeal.main_v101_0)) (v3 : (c : Dev Cert.KernelIdeal.nD) → Buf (Elt Ideal) ((c.tc : Thread Cert.KernelIdeal.nD Cert.KernelIdeal.τ).loc Cert.KernelIdeal.main_v108)) (v4 : (c : Dev Cert.KernelIdeal.nD) → Buf (Elt Ideal) ((c.tc : Thread Cert.KernelIdeal.nD Cert.KernelIdeal.τ).loc Cert.KernelIdeal.main_v112)) (v5 : (c : Dev Cert.KernelIdeal.nD) → Buf (Elt Ideal) ((c.tc : Thread Cert.KernelIdeal.nD Cert.KernelIdeal.τ).loc Cert.KernelIdeal.main_v116)) (v6 : (c : Dev Cert.KernelIdeal.nD) → Buf (Elt Ideal) ((c.tc : Thread Cert.KernelIdeal.nD Cert.KernelIdeal.τ).loc Cert.KernelIdeal.main_v117)) (v7 : (c : Dev Cert.KernelIdeal.nD) → Buf (Elt Ideal) ((c.tc : Thread Cert.KernelIdeal.nD Cert.KernelIdeal.τ).loc Cert.KernelIdeal.main_v25)) (v8 : (c : Dev Cert.KernelIdeal.nD) → Buf (Elt Ideal) ((c.tc : Thread Cert.KernelIdeal.nD Cert.KernelIdeal.τ).loc Cert.KernelIdeal.main_v100_1)) (v9 : (c : Dev Cert.KernelIdeal.nD) → Buf (Elt Ideal) ((c.tc : Thread Cert.KernelIdeal.nD Cert.KernelIdeal.τ).loc Cert.KernelIdeal.main_v54)) (v10 : (c : Dev Cert.KernelIdeal.nD) → Buf (Elt Ideal) ((c.tc : Thread Cert.KernelIdeal.nD Cert.KernelIdeal.τ).loc Cert.KernelIdeal.main_v118)) (v11 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_v101_0) = v2 c
          ∧ r.2.mem ((c.tc : Thread Cert.KernelIdeal.nD Cert.KernelIdeal.τ).loc Cert.KernelIdeal.main_v108) = v3 c
          ∧ r.2.mem ((c.tc : Thread Cert.KernelIdeal.nD Cert.KernelIdeal.τ).loc Cert.KernelIdeal.main_v112) = v4 c
          ∧ r.2.mem ((c.tc : Thread Cert.KernelIdeal.nD Cert.KernelIdeal.τ).loc Cert.KernelIdeal.main_v116) = v5 c
          ∧ r.2.mem ((c.tc : Thread Cert.KernelIdeal.nD Cert.KernelIdeal.τ).loc Cert.KernelIdeal.main_v117) = v6 c
          ∧ r.2.mem ((c.tc : Thread Cert.KernelIdeal.nD Cert.KernelIdeal.τ).loc Cert.KernelIdeal.main_v25) = v7 c
          ∧ r.2.mem ((c.tc : Thread Cert.KernelIdeal.nD Cert.KernelIdeal.τ).loc Cert.KernelIdeal.main_v100_1) = v8 c
          ∧ r.2.mem ((c.tc : Thread Cert.KernelIdeal.nD Cert.KernelIdeal.τ).loc Cert.KernelIdeal.main_v54) = v9 c
          ∧ r.2.mem ((c.tc : Thread Cert.KernelIdeal.nD Cert.KernelIdeal.τ).loc Cert.KernelIdeal.main_v118) = v10 c
          ∧ r.2.mem ((c.tc : Thread Cert.KernelIdeal.nD Cert.KernelIdeal.τ).loc Cert.KernelIdeal.main_v83) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_v86) = v5 c
          ∧ r.2.mem ((c.tc : Thread Cert.ReferenceIdeal.nD Cert.ReferenceIdeal.τ).loc Cert.ReferenceIdeal.main_v87) = v6 c
          ∧ r.2.mem ((c.tc : Thread Cert.ReferenceIdeal.nD Cert.ReferenceIdeal.τ).loc Cert.ReferenceIdeal.main_v13) = v7 c
          ∧ r.2.mem ((c.tc : Thread Cert.ReferenceIdeal.nD Cert.ReferenceIdeal.τ).loc Cert.ReferenceIdeal.main_v56_1) = v8 c
          ∧ r.2.mem ((c.tc : Thread Cert.ReferenceIdeal.nD Cert.ReferenceIdeal.τ).loc Cert.ReferenceIdeal.main_v30) = v9 c
          ∧ r.2.mem ((c.tc : Thread Cert.ReferenceIdeal.nD Cert.ReferenceIdeal.τ).loc Cert.ReferenceIdeal.main_v88) = v10 c
          ∧ r.2.mem ((c.tc : Thread Cert.ReferenceIdeal.nD Cert.ReferenceIdeal.τ).loc Cert.ReferenceIdeal.main_v47) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x6656 : Shape := ⟨3, ![2, 2048, 6656]⟩
abbrev S6656x16384 : Shape := ⟨2, ![6656, 16384]⟩
abbrev S2x2048x16384 : Shape := ⟨3, ![2, 2048, 16384]⟩
abbrev S16 : Shape := ⟨1, ![16]⟩
abbrev S4096x6656 : Shape := ⟨2, ![4096, 6656]⟩
abbrev S4096x16384 : Shape := ⟨2, ![4096, 16384]⟩
abbrev S_ : Shape := ⟨0, ![]⟩
abbrev S255 : Shape := ⟨1, ![255]⟩
abbrev S1 : Shape := ⟨1, ![1]⟩
abbrev S6 : Shape := ⟨1, ![6]⟩
abbrev S6656x4096 : Shape := ⟨2, ![6656, 4096]⟩
abbrev S1x6656 : Shape := ⟨2, ![1, 6656]⟩
abbrev S256x6656 : Shape := ⟨2, ![256, 6656]⟩
abbrev S6656x256 : Shape := ⟨2, ![6656, 256]⟩
abbrev S6656 : Shape := ⟨1, ![6656]⟩
abbrev S1x256 : Shape := ⟨2, ![1, 256]⟩
abbrev S4096x256 : Shape := ⟨2, ![4096, 256]⟩
abbrev S256x256 : Shape := ⟨2, ![256, 256]⟩
abbrev S256 : Shape := ⟨1, ![256]⟩
abbrev S512x6656 : Shape := ⟨2, ![512, 6656]⟩
abbrev S512x256 : Shape := ⟨2, ![512, 256]⟩
abbrev S512x4096 : Shape := ⟨2, ![512, 4096]⟩
abbrev S1024x16384 : Shape := ⟨2, ![1024, 16384]⟩
abbrev S512x16384 : Shape := ⟨2, ![512, 16384]⟩
abbrev S1024x512 : Shape := ⟨2, ![1024, 512]⟩
abbrev S512x512 : Shape := ⟨2, ![512, 512]⟩
abbrev S15 : Shape := ⟨1, ![15]⟩

abbrev nBuf : Space → Nat
  | .hbm => 194
  | .vmem => 29
  | .smem => 4
  | _ => 0

abbrev hbmTy0_0 (i : Nat) : BufTy := match i % 128 with
  | 0 => ⟨S2x2048x6656, .bf16⟩
  | 1 => ⟨S6656x16384, .f32⟩
  | 2 => ⟨S2x2048x16384, .bf16⟩
  | 3 => ⟨S16, .f32⟩
  | 4 => ⟨S16, .f32⟩
  | 5 => ⟨S16, .f32⟩
  | 6 => ⟨S4096x6656, .bf16⟩
  | 7 => ⟨S4096x16384, .bf16⟩
  | 8 => ⟨S_, .f32⟩
  | 9 => ⟨S_, .f32⟩
  | 10 => ⟨S_, .f32⟩
  | 11 => ⟨S_, .f32⟩
  | 12 => ⟨S255, .i32⟩
  | 13 => ⟨S_, .i32⟩
  | 14 => ⟨S255, .i32⟩
  | 15 => ⟨S255, .i32⟩
  | 16 => ⟨S_, .i32⟩
  | 17 => ⟨S255, .i32⟩
  | 18 => ⟨S255, .i32⟩
  | 19 => ⟨S255, .f32⟩
  | 20 => ⟨S_, .f32⟩
  | 21 => ⟨S255, .f32⟩
  | 22 => ⟨S255, .i1⟩
  | 23 => ⟨S255, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i1⟩
  | 31 => ⟨S_, .i32⟩
  | 32 => ⟨S_, .i32⟩
  | 33 => ⟨S_, .i32⟩
  | 34 => ⟨S_, .i32⟩
  | 35 => ⟨S_, .f32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .f32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .f32⟩
  | 57 => ⟨S_, .f32⟩
  | 58 => ⟨S_, .f32⟩
  | 59 => ⟨S_, .f32⟩
  | 60 => ⟨S_, .f32⟩
  | 61 => ⟨S255, .i32⟩
  | 62 => ⟨S_, .i32⟩
  | 63 => ⟨S255, .i32⟩
  | 64 => ⟨S255, .i32⟩
  | 65 => ⟨S_, .i32⟩
  | 66 => ⟨S255, .i32⟩
  | 67 => ⟨S255, .i32⟩
  | 68 => ⟨S255, .f32⟩
  | 69 => ⟨S_, .f32⟩
  | 70 => ⟨S255, .f32⟩
  | 71 => ⟨S255, .i1⟩
  | 72 => ⟨S255, .i32⟩
  | 73 => ⟨S_, .i32⟩
  | 74 => ⟨S_, .i32⟩
  | 75 => ⟨S_, .i32⟩
  | 76 => ⟨S_, .i1⟩
  | 77 => ⟨S_, .i32⟩
  | 78 => ⟨S_, .i1⟩
  | 79 => ⟨S_, .i1⟩
  | 80 => ⟨S_, .i32⟩
  | 81 => ⟨S_, .i32⟩
  | 82 => ⟨S_, .i32⟩
  | 83 => ⟨S_, .i32⟩
  | 84 => ⟨S_, .f32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .f32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .f32⟩
  | 106 => ⟨S_, .f32⟩
  | 107 => ⟨S_, .f32⟩
  | 108 => ⟨S_, .f32⟩
  | 109 => ⟨S_, .f32⟩
  | 110 => ⟨S255, .i32⟩
  | 111 => ⟨S_, .i32⟩
  | 112 => ⟨S255, .i32⟩
  | 113 => ⟨S255, .i32⟩
  | 114 => ⟨S_, .i32⟩
  | 115 => ⟨S255, .i32⟩
  | 116 => ⟨S255, .i32⟩
  | 117 => ⟨S255, .f32⟩
  | 118 => ⟨S_, .f32⟩
  | 119 => ⟨S255, .f32⟩
  | 120 => ⟨S255, .i1⟩
  | 121 => ⟨S255, .i32⟩
  | 122 => ⟨S_, .i32⟩
  | 123 => ⟨S_, .i32⟩
  | 124 => ⟨S_, .i32⟩
  | 125 => ⟨S_, .i1⟩
  | 126 => ⟨S_, .i32⟩
  | 127 => ⟨S_, .i1⟩
  | _ => ⟨S2x2048x6656, .bf16⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .f32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .f32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S1, .f32⟩
  | 33 => ⟨S1, .f32⟩
  | 34 => ⟨S1, .f32⟩
  | 35 => ⟨S1, .f32⟩
  | 36 => ⟨S6, .f32⟩
  | 37 => ⟨S4096x6656, .fp8e4m3⟩
  | 38 => ⟨S6656x4096, .fp8e4m3⟩
  | 39 => ⟨S1x6656, .f32⟩
  | 40 => ⟨S4096x16384, .bf16⟩
  | 41 => ⟨S6656x16384, .fp8e4m3⟩
  | 42 => ⟨S1x256, .f32⟩
  | 43 => ⟨S6656x16384, .f32⟩
  | 44 => ⟨S4096x16384, .fp8e5m2⟩
  | 45 => ⟨S1x256, .f32⟩
  | 46 => ⟨S4096x6656, .bf16⟩
  | 47 => ⟨S2x2048x16384, .bf16⟩
  | 48 => ⟨S2x2048x6656, .bf16⟩
  | 49 => ⟨S15, .f32⟩
  | 50 => ⟨S_, .f32⟩
  | 51 => ⟨S_, .f32⟩
  | 52 => ⟨S1, .f32⟩
  | 53 => ⟨S16, .f32⟩
  | 54 => ⟨S15, .f32⟩
  | 55 => ⟨S_, .f32⟩
  | 56 => ⟨S_, .f32⟩
  | 57 => ⟨S1, .f32⟩
  | 58 => ⟨S16, .f32⟩
  | 59 => ⟨S15, .f32⟩
  | 60 => ⟨S_, .f32⟩
  | 61 => ⟨S_, .f32⟩
  | 62 => ⟨S1, .f32⟩
  | 63 => ⟨S16, .f32⟩
  | 64 => ⟨S2x2048x6656, .fp8e4m3⟩
  | 65 => ⟨S2x2048x16384, .fp8e5m2⟩
  | _ => ⟨S2x2048x6656, .bf16⟩

abbrev hbmTy (i : Nat) : BufTy := match i / 128 with
  | 0 => hbmTy0_0 i
  | 1 => hbmTy0_1 i
  | _ => ⟨S2x2048x6656, .bf16⟩

abbrev bufTy : (tb : Table) → Fin (tcTables nBuf tb) → BufTy
  | .hbm, ⟨i, _⟩ => hbmTy i
  | .local _ .vmem, ⟨0, _⟩ => ⟨S256x6656, .bf16⟩
  | .local _ .vmem, ⟨1, _⟩ => ⟨S256x6656, .bf16⟩
  | .local _ .vmem, ⟨2, _⟩ => ⟨S256x6656, .fp8e4m3⟩
  | .local _ .vmem, ⟨3, _⟩ => ⟨S256x6656, .fp8e4m3⟩
  | .local _ .vmem, ⟨4, _⟩ => ⟨S6656x256, .fp8e4m3⟩
  | .local _ .vmem, ⟨5, _⟩ => ⟨S6656x256, .fp8e4m3⟩
  | .local _ .vmem, ⟨6, _⟩ => ⟨S1x6656, .f32⟩
  | .local _ .vmem, ⟨7, _⟩ => ⟨S4096x6656, .fp8e4m3⟩
  | .local _ .vmem, ⟨8, _⟩ => ⟨S6656x256, .f32⟩
  | .local _ .vmem, ⟨9, _⟩ => ⟨S6656x256, .f32⟩
  | .local _ .vmem, ⟨10, _⟩ => ⟨S4096x256, .bf16⟩
  | .local _ .vmem, ⟨11, _⟩ => ⟨S4096x256, .bf16⟩
  | .local _ .vmem, ⟨12, _⟩ => ⟨S6656x256, .fp8e4m3⟩
  | .local _ .vmem, ⟨13, _⟩ => ⟨S6656x256, .fp8e4m3⟩
  | .local _ .vmem, ⟨14, _⟩ => ⟨S1x256, .f32⟩
  | .local _ .vmem, ⟨15, _⟩ => ⟨S6656x4096, .fp8e4m3⟩
  | .local _ .vmem, ⟨16, _⟩ => ⟨S4096x256, .bf16⟩
  | .local _ .vmem, ⟨17, _⟩ => ⟨S4096x256, .bf16⟩
  | .local _ .vmem, ⟨18, _⟩ => ⟨S6656x256, .f32⟩
  | .local _ .vmem, ⟨19, _⟩ => ⟨S6656x256, .f32⟩
  | .local _ .vmem, ⟨20, _⟩ => ⟨S4096x256, .fp8e5m2⟩
  | .local _ .vmem, ⟨21, _⟩ => ⟨S4096x256, .fp8e5m2⟩
  | .local _ .vmem, ⟨22, _⟩ => ⟨S1x256, .f32⟩
  | .local _ .vmem, ⟨23, _⟩ => ⟨S1024x16384, .fp8e5m2⟩
  | .local _ .vmem, ⟨24, _⟩ => ⟨S1024x16384, .fp8e5m2⟩
  | .local _ .vmem, ⟨25, _⟩ => ⟨S512x16384, .fp8e4m3⟩
  | .local _ .vmem, ⟨26, _⟩ => ⟨S512x16384, .fp8e4m3⟩
  | .local _ .vmem, ⟨27, _⟩ => ⟨S1024x512, .bf16⟩
  | .local _ .vmem, ⟨28, _⟩ => ⟨S1024x512, .bf16⟩
  | .local _ .smem, ⟨0, _⟩ => ⟨S6, .f32⟩
  | .local _ .smem, ⟨1, _⟩ => ⟨S6, .f32⟩
  | .local _ .smem, ⟨2, _⟩ => ⟨S6, .f32⟩
  | .local _ .smem, ⟨3, _⟩ => ⟨S6, .f32⟩
  | _, _ => ⟨S2x2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_c_8 : Ref sig .tc := ⟨.hbm, 37, rfl⟩
abbrev main_call0_v0 : Ref sig .tc := ⟨.hbm, 38, rfl⟩
abbrev main_v21 : Ref sig .tc := ⟨.hbm, 39, rfl⟩
abbrev main_c_9 : Ref sig .tc := ⟨.hbm, 40, rfl⟩
abbrev main_v22 : Ref sig .tc := ⟨.hbm, 41, rfl⟩
abbrev main_c_10 : Ref sig .tc := ⟨.hbm, 42, rfl⟩
abbrev main_c_11 : Ref sig .tc := ⟨.hbm, 43, rfl⟩
abbrev main_v23 : Ref sig .tc := ⟨.hbm, 44, rfl⟩
abbrev main_c_12 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_13 : Ref sig .tc := ⟨.hbm, 49, rfl⟩
abbrev main_v27 : Ref sig .tc := ⟨.hbm, 50, rfl⟩
abbrev main_c_14 : Ref sig .tc := ⟨.hbm, 51, rfl⟩
abbrev main_c_15 : Ref sig .tc := ⟨.hbm, 52, rfl⟩
abbrev main_v28 : Ref sig .tc := ⟨.hbm, 53, rfl⟩
abbrev main_c_16 : Ref sig .tc := ⟨.hbm, 54, rfl⟩
abbrev main_v29 : Ref sig .tc := ⟨.hbm, 55, rfl⟩
abbrev main_v30 : Ref sig .tc := ⟨.hbm, 56, rfl⟩
abbrev main_cst_17 : Ref sig .tc := ⟨.hbm, 57, rfl⟩
abbrev main_v31 : Ref sig .tc := ⟨.hbm, 58, rfl⟩
abbrev main_cst_18 : Ref sig .tc := ⟨.hbm, 59, rfl⟩
abbrev main_v32 : Ref sig .tc := ⟨.hbm, 60, rfl⟩
abbrev main_v33 : Ref sig .tc := ⟨.hbm, 61, rfl⟩
abbrev main_c_19 : Ref sig .tc := ⟨.hbm, 62, rfl⟩
abbrev main_v34 : Ref sig .tc := ⟨.hbm, 63, rfl⟩
abbrev main_v35 : Ref sig .tc := ⟨.hbm, 64, rfl⟩
abbrev main_c_20 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_21 : Ref sig .tc := ⟨.hbm, 73, rfl⟩
abbrev main_v43 : Ref sig .tc := ⟨.hbm, 74, rfl⟩
abbrev main_c_22 : Ref sig .tc := ⟨.hbm, 75, rfl⟩
abbrev main_v44 : Ref sig .tc := ⟨.hbm, 76, rfl⟩
abbrev main_c_23 : Ref sig .tc := ⟨.hbm, 77, rfl⟩
abbrev main_v45 : Ref sig .tc := ⟨.hbm, 78, rfl⟩
abbrev main_v46 : Ref sig .tc := ⟨.hbm, 79, rfl⟩
abbrev main_c_24 : Ref sig .tc := ⟨.hbm, 80, rfl⟩
abbrev main_v47 : Ref sig .tc := ⟨.hbm, 81, rfl⟩
abbrev main_c_25 : Ref sig .tc := ⟨.hbm, 82, rfl⟩
abbrev main_v48 : Ref sig .tc := ⟨.hbm, 83, rfl⟩
abbrev main_cst_26 : Ref sig .tc := ⟨.hbm, 84, rfl⟩
abbrev main_v49 : Ref sig .tc := ⟨.hbm, 85, rfl⟩
abbrev main_c_27 : Ref sig .tc := ⟨.hbm, 86, rfl⟩
abbrev main_call1_v0 : Ref sig .tc := ⟨.hbm, 87, rfl⟩
abbrev main_v50 : Ref sig .tc := ⟨.hbm, 88, rfl⟩
abbrev main_c_28 : Ref sig .tc := ⟨.hbm, 89, rfl⟩
abbrev main_v51 : Ref sig .tc := ⟨.hbm, 90, rfl⟩
abbrev main_c_29 : Ref sig .tc := ⟨.hbm, 91, rfl⟩
abbrev main_c_30 : Ref sig .tc := ⟨.hbm, 92, rfl⟩
abbrev main_v52 : Ref sig .tc := ⟨.hbm, 93, rfl⟩
abbrev main_c_31 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_32 : Ref sig .tc := ⟨.hbm, 98, rfl⟩
abbrev main_v56 : Ref sig .tc := ⟨.hbm, 99, rfl⟩
abbrev main_c_33 : Ref sig .tc := ⟨.hbm, 100, rfl⟩
abbrev main_c_34 : Ref sig .tc := ⟨.hbm, 101, rfl⟩
abbrev main_v57 : Ref sig .tc := ⟨.hbm, 102, rfl⟩
abbrev main_c_35 : Ref sig .tc := ⟨.hbm, 103, rfl⟩
abbrev main_v58 : Ref sig .tc := ⟨.hbm, 104, rfl⟩
abbrev main_v59 : Ref sig .tc := ⟨.hbm, 105, rfl⟩
abbrev main_cst_36 : Ref sig .tc := ⟨.hbm, 106, rfl⟩
abbrev main_v60 : Ref sig .tc := ⟨.hbm, 107, rfl⟩
abbrev main_cst_37 : Ref sig .tc := ⟨.hbm, 108, rfl⟩
abbrev main_v61 : Ref sig .tc := ⟨.hbm, 109, rfl⟩
abbrev main_v62 : Ref sig .tc := ⟨.hbm, 110, rfl⟩
abbrev main_c_38 : Ref sig .tc := ⟨.hbm, 111, rfl⟩
abbrev main_v63 : Ref sig .tc := ⟨.hbm, 112, rfl⟩
abbrev main_v64 : Ref sig .tc := ⟨.hbm, 113, rfl⟩
abbrev main_c_39 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_40 : Ref sig .tc := ⟨.hbm, 122, rfl⟩
abbrev main_v72 : Ref sig .tc := ⟨.hbm, 123, rfl⟩
abbrev main_c_41 : Ref sig .tc := ⟨.hbm, 124, rfl⟩
abbrev main_v73 : Ref sig .tc := ⟨.hbm, 125, rfl⟩
abbrev main_c_42 : Ref sig .tc := ⟨.hbm, 126, rfl⟩
abbrev main_v74 : Ref sig .tc := ⟨.hbm, 127, rfl⟩
abbrev main_v75 : Ref sig .tc := ⟨.hbm, 128, rfl⟩
abbrev main_c_43 : Ref sig .tc := ⟨.hbm, 129, rfl⟩
abbrev main_v76 : Ref sig .tc := ⟨.hbm, 130, rfl⟩
abbrev main_c_44 : Ref sig .tc := ⟨.hbm, 131, rfl⟩
abbrev main_v77 : Ref sig .tc := ⟨.hbm, 132, rfl⟩
abbrev main_cst_45 : Ref sig .tc := ⟨.hbm, 133, rfl⟩
abbrev main_v78 : Ref sig .tc := ⟨.hbm, 134, rfl⟩
abbrev main_c_46 : Ref sig .tc := ⟨.hbm, 135, rfl⟩
abbrev main_call2_v0 : Ref sig .tc := ⟨.hbm, 136, rfl⟩
abbrev main_v79 : Ref sig .tc := ⟨.hbm, 137, rfl⟩
abbrev main_c_47 : Ref sig .tc := ⟨.hbm, 138, rfl⟩
abbrev main_v80 : Ref sig .tc := ⟨.hbm, 139, rfl⟩
abbrev main_c_48 : Ref sig .tc := ⟨.hbm, 140, rfl⟩
abbrev main_c_49 : Ref sig .tc := ⟨.hbm, 141, rfl⟩
abbrev main_v81 : Ref sig .tc := ⟨.hbm, 142, rfl⟩
abbrev main_c_50 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_c_51 : Ref sig .tc := ⟨.hbm, 147, rfl⟩
abbrev main_v85 : Ref sig .tc := ⟨.hbm, 148, rfl⟩
abbrev main_c_52 : Ref sig .tc := ⟨.hbm, 149, rfl⟩
abbrev main_c_53 : Ref sig .tc := ⟨.hbm, 150, rfl⟩
abbrev main_v86 : Ref sig .tc := ⟨.hbm, 151, rfl⟩
abbrev main_c_54 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99_0 : Ref sig .tc := ⟨.hbm, 165, rfl⟩
abbrev main_v99_1 : Ref sig .tc := ⟨.hbm, 166, rfl⟩
abbrev main_v99_2 : Ref sig .tc := ⟨.hbm, 167, rfl⟩
abbrev main_v100_0 : Ref sig .tc := ⟨.hbm, 168, rfl⟩
abbrev main_v100_1 : Ref sig .tc := ⟨.hbm, 169, rfl⟩
abbrev main_v100_2 : Ref sig .tc := ⟨.hbm, 170, rfl⟩
abbrev main_v101_0 : Ref sig .tc := ⟨.hbm, 171, rfl⟩
abbrev main_v101_1 : Ref sig .tc := ⟨.hbm, 172, rfl⟩
abbrev main_v101_2 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_cst_55 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_cst_56 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_57 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc3_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc2_sem0_0 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc3_sem0_0 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_8 : BitVec 32 := 0#32
  let v22 : BitVec 1 := Scalar.cmpi .ne v21 c0_i32_8
  v22

def k0_cond2 (i : grid0.Coords) : BitVec 1 :=
  let arg0 : BitVec 32 := BitVec.ofNat 32 (i 0).val
  let c0_i32_9 : BitVec 32 := 0#32
  let v23 : BitVec 1 := Scalar.cmpi .ne arg0 c0_i32_9
  let v24 : BitVec 32 := Scalar.extui v23
  let c0_i32_10 : BitVec 32 := 0#32
  let v25 : BitVec 1 := Scalar.cmpi .ne v24 c0_i32_10
  v25

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6656 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6656 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6656x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6656 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def k1_cond1 (i : grid1.Coords) : BitVec 1 :=
  let arg0 : BitVec 32 := BitVec.ofNat 32 (i 0).val
  let c0_i32 : BitVec 32 := 0#32
  let v338 : BitVec 1 := Scalar.cmpi .eq arg0 c0_i32
  let v339 : BitVec 32 := Scalar.extui v338
  let c0_i32_155 : BitVec 32 := 0#32
  let v340 : BitVec 1 := Scalar.cmpi .ne v339 c0_i32_155
  v340

def k1_cond2 (i : grid1.Coords) : BitVec 1 :=
  let arg0 : BitVec 32 := BitVec.ofNat 32 (i 0).val
  let c0_i32_156 : BitVec 32 := 0#32
  let v341 : BitVec 1 := Scalar.cmpi .ne arg0 c0_i32_156
  let v342 : BitVec 32 := Scalar.extui v341
  let c0_i32_157 : BitVec 32 := 0#32
  let v343 : BitVec 1 := Scalar.cmpi .ne v342 c0_i32_157
  v343

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S6 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x6656 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6656x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6656x256 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![64], ![false]⟩

def k2_cond1 (i : grid2.Coords) : BitVec 1 :=
  let arg0 : BitVec 32 := BitVec.ofNat 32 (i 0).val
  let c0_i32 : BitVec 32 := 0#32
  let v241 : BitVec 1 := Scalar.cmpi .eq arg0 c0_i32
  let v242 : BitVec 32 := Scalar.extui v241
  let c0_i32_95 : BitVec 32 := 0#32
  let v243 : BitVec 1 := Scalar.cmpi .ne v242 c0_i32_95
  v243

def k2_cond2 (i : grid2.Coords) : BitVec 1 :=
  let arg0 : BitVec 32 := BitVec.ofNat 32 (i 0).val
  let c0_i32_96 : BitVec 32 := 0#32
  let v244 : BitVec 1 := Scalar.cmpi .ne arg0 c0_i32_96
  let v245 : BitVec 32 := Scalar.extui v244
  let c0_i32_97 : BitVec 32 := 0#32
  let v246 : BitVec 1 := Scalar.cmpi .ne v245 c0_i32_97
  v246

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S6 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S6656x4096 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S6656x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4096x256 .fp8e5m2 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨2, ![4, 13], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .smem S6 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1024x16384 .fp8e5m2 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x16384 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== ReferenceIdeal.lean ====
abbrev S2x2048x6656 : Shape := ⟨3, ![2, 2048, 6656]⟩
abbrev S6656x16384 : Shape := ⟨2, ![6656, 16384]⟩
abbrev S2x2048x16384 : Shape := ⟨3, ![2, 2048, 16384]⟩
abbrev S16 : Shape := ⟨1, ![16]⟩
abbrev S254 : Shape := ⟨1, ![254]⟩
abbrev S_ : Shape := ⟨0, ![]⟩
abbrev S1x1 : Shape := ⟨2, ![1, 1]⟩
abbrev S4096x6656 : Shape := ⟨2, ![4096, 6656]⟩
abbrev S4096x16384 : Shape := ⟨2, ![4096, 16384]⟩
abbrev S15 : Shape := ⟨1, ![15]⟩
abbrev S1 : Shape := ⟨1, ![1]⟩

abbrev nBuf : Space → Nat
  | .hbm => 139
  | .vmem => 12
  | .smem => 0
  | _ => 0

abbrev hbmTy0_0 (i : Nat) : BufTy := match i % 128 with
  | 0 => ⟨S2x2048x6656, .bf16⟩
  | 1 => ⟨S6656x16384, .f32⟩
  | 2 => ⟨S2x2048x16384, .bf16⟩
  | 3 => ⟨S16, .f32⟩
  | 4 => ⟨S16, .f32⟩
  | 5 => ⟨S16, .f32⟩
  | 6 => ⟨S254, .f32⟩
  | 7 => ⟨S254, .f32⟩
  | 8 => ⟨S254, .f32⟩
  | 9 => ⟨S_, .f32⟩
  | 10 => ⟨S_, .f32⟩
  | 11 => ⟨S_, .f32⟩
  | 12 => ⟨S_, .f32⟩
  | 13 => ⟨S_, .f32⟩
  | 14 => ⟨S254, .f32⟩
  | 15 => ⟨S254, .i1⟩
  | 16 => ⟨S_, .f32⟩
  | 17 => ⟨S254, .f32⟩
  | 18 => ⟨S254, .f32⟩
  | 19 => ⟨S_, .f32⟩
  | 20 => ⟨S_, .f32⟩
  | 21 => ⟨S_, .f32⟩
  | 22 => ⟨S_, .i1⟩
  | 23 => ⟨S_, .f32⟩
  | 24 => ⟨S_, .i1⟩
  | 25 => ⟨S_, .i1⟩
  | 26 => ⟨S_, .f32⟩
  | 27 => ⟨S_, .i1⟩
  | 28 => ⟨S_, .i1⟩
  | 29 => ⟨S_, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S254, .f32⟩
  | 43 => ⟨S254, .i1⟩
  | 44 => ⟨S_, .f32⟩
  | 45 => ⟨S254, .f32⟩
  | 46 => ⟨S254, .f32⟩
  | 47 => ⟨S_, .f32⟩
  | 48 => ⟨S_, .f32⟩
  | 49 => ⟨S_, .f32⟩
  | 50 => ⟨S_, .i1⟩
  | 51 => ⟨S_, .f32⟩
  | 52 => ⟨S_, .i1⟩
  | 53 => ⟨S_, .i1⟩
  | 54 => ⟨S_, .f32⟩
  | 55 => ⟨S_, .i1⟩
  | 56 => ⟨S_, .i1⟩
  | 57 => ⟨S_, .f32⟩
  | 58 => ⟨S_, .f32⟩
  | 59 => ⟨S_, .f32⟩
  | 60 => ⟨S_, .i1⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S254, .f32⟩
  | 71 => ⟨S254, .i1⟩
  | 72 => ⟨S_, .f32⟩
  | 73 => ⟨S254, .f32⟩
  | 74 => ⟨S254, .f32⟩
  | 75 => ⟨S_, .f32⟩
  | 76 => ⟨S_, .f32⟩
  | 77 => ⟨S_, .f32⟩
  | 78 => ⟨S_, .i1⟩
  | 79 => ⟨S_, .f32⟩
  | 80 => ⟨S_, .i1⟩
  | 81 => ⟨S_, .i1⟩
  | 82 => ⟨S_, .f32⟩
  | 83 => ⟨S_, .i1⟩
  | 84 => ⟨S_, .i1⟩
  | 85 => ⟨S_, .f32⟩
  | 86 => ⟨S_, .f32⟩
  | 87 => ⟨S_, .f32⟩
  | 88 => ⟨S_, .i1⟩
  | 89 => ⟨S_, .f32⟩
  | 90 => ⟨S_, .f32⟩
  | 91 => ⟨S_, .f32⟩
  | 92 => ⟨S_, .f32⟩
  | 93 => ⟨S1x1, .f32⟩
  | 94 => ⟨S1x1, .f32⟩
  | 95 => ⟨S1x1, .f32⟩
  | 96 => ⟨S4096x6656, .bf16⟩
  | 97 => ⟨S4096x16384, .bf16⟩
  | 98 => ⟨S4096x6656, .fp8e4m3⟩
  | 99 => ⟨S6656x16384, .fp8e4m3⟩
  | 100 => ⟨S4096x16384, .fp8e5m2⟩
  | 101 => ⟨S4096x16384, .f32⟩
  | 102 => ⟨S4096x6656, .f32⟩
  | 103 => ⟨S6656x16384, .f32⟩
  | 104 => ⟨S_, .f32⟩
  | 105 => ⟨S4096x16384, .f32⟩
  | 106 => ⟨S4096x16384, .f32⟩
  | 107 => ⟨S4096x16384, .bf16⟩
  | 108 => ⟨S_, .f32⟩
  | 109 => ⟨S4096x6656, .f32⟩
  | 110 => ⟨S4096x6656, .f32⟩
  | 111 => ⟨S4096x6656, .bf16⟩
  | 112 => ⟨S_, .f32⟩
  | 113 => ⟨S6656x16384, .f32⟩
  | 114 => ⟨S6656x16384, .f32⟩
  | 115 => ⟨S2x2048x16384, .bf16⟩
  | 116 => ⟨S2x2048x6656, .bf16⟩
  | 117 => ⟨S2x2048x6656, .bf16⟩
  | 118 => ⟨S_, .bf16⟩
  | 119 => ⟨S_, .bf16⟩
  | 120 => ⟨S_, .f32⟩
  | 121 => ⟨S15, .f32⟩
  | 122 => ⟨S1, .f32⟩
  | 123 => ⟨S16, .f32⟩
  | 124 => ⟨S6656x16384, .f32⟩
  | 125 => ⟨S_, .f32⟩
  | 126 => ⟨S_, .f32⟩
  | 127 => ⟨S15, .f32⟩
  | _ => ⟨S2x2048x6656, .bf16⟩

abbrev hbmTy0_1 (i : Nat) : BufTy := match i % 128 with
  | 0 => ⟨S1, .f32⟩
  | 1 => ⟨S16, .f32⟩
  | 2 => ⟨S2x2048x16384, .bf16⟩
  | 3 => ⟨S_, .bf16⟩
  | 4 => ⟨S_, .bf16⟩
  | 5 => ⟨S_, .f32⟩
  | 6 => ⟨S15, .f32⟩
  | 7 => ⟨S1, .f32⟩
  | 8 => ⟨S16, .f32⟩
  | 9 => ⟨S2x2048x6656, .fp8e4m3⟩
  | 10 => ⟨S2x2048x16384, .fp8e5m2⟩
  | _ => ⟨S2x2048x6656, .bf16⟩

abbrev hbmTy (i : Nat) : BufTy := match i / 128 with
  | 0 => hbmTy0_0 i
  | 1 => hbmTy0_1 i
  | _ => ⟨S2x2048x6656, .bf16⟩

abbrev bufTy : (tb : Table) → Fin (tcTables nBuf tb) → BufTy
  | .hbm, ⟨i, _⟩ => hbmTy i
  | .local _ .vmem, ⟨0, _⟩ => ⟨S1x1, .f32⟩
  | .local _ .vmem, ⟨1, _⟩ => ⟨S1x1, .f32⟩
  | .local _ .vmem, ⟨2, _⟩ => ⟨S1x1, .f32⟩
  | .local _ .vmem, ⟨3, _⟩ => ⟨S4096x6656, .bf16⟩
  | .local _ .vmem, ⟨4, _⟩ => ⟨S6656x16384, .f32⟩
  | .local _ .vmem, ⟨5, _⟩ => ⟨S4096x16384, .bf16⟩
  | .local _ .vmem, ⟨6, _⟩ => ⟨S4096x6656, .fp8e4m3⟩
  | .local _ .vmem, ⟨7, _⟩ => ⟨S6656x16384, .fp8e4m3⟩
  | .local _ .vmem, ⟨8, _⟩ => ⟨S4096x16384, .fp8e5m2⟩
  | .local _ .vmem, ⟨9, _⟩ => ⟨S4096x16384, .f32⟩
  | .local _ .vmem, ⟨10, _⟩ => ⟨S4096x6656, .f32⟩
  | .local _ .vmem, ⟨11, _⟩ => ⟨S6656x16384, .f32⟩
  | _, _ => ⟨S2x2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_cst_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_4 : Ref sig .tc := ⟨.hbm, 16, rfl⟩
abbrev main_v5 : Ref sig .tc := ⟨.hbm, 17, rfl⟩
abbrev main_v6 : Ref sig .tc := ⟨.hbm, 18, rfl⟩
abbrev main_cst_5 : Ref sig .tc := ⟨.hbm, 19, rfl⟩
abbrev main_v7 : Ref sig .tc := ⟨.hbm, 20, rfl⟩
abbrev main_cst_6 : Ref sig .tc := ⟨.hbm, 21, rfl⟩
abbrev main_v8 : Ref sig .tc := ⟨.hbm, 22, rfl⟩
abbrev main_cst_7 : Ref sig .tc := ⟨.hbm, 23, rfl⟩
abbrev main_v9 : Ref sig .tc := ⟨.hbm, 24, rfl⟩
abbrev main_v10 : Ref sig .tc := ⟨.hbm, 25, rfl⟩
abbrev main_cst_8 : Ref sig .tc := ⟨.hbm, 26, rfl⟩
abbrev main_v11 : Ref sig .tc := ⟨.hbm, 27, rfl⟩
abbrev main_v12 : Ref sig .tc := ⟨.hbm, 28, rfl⟩
abbrev main_cst_9 : Ref sig .tc := ⟨.hbm, 29, rfl⟩
abbrev main_v13 : Ref sig .tc := ⟨.hbm, 30, rfl⟩
abbrev main_cst_10 : Ref sig .tc := ⟨.hbm, 31, rfl⟩
abbrev main_v14 : Ref sig .tc := ⟨.hbm, 32, rfl⟩
abbrev main_cst_11 : Ref sig .tc := ⟨.hbm, 33, rfl⟩
abbrev main_v15 : Ref sig .tc := ⟨.hbm, 34, rfl⟩
abbrev main_cst_12 : Ref sig .tc := ⟨.hbm, 35, rfl⟩
abbrev main_v16 : Ref sig .tc := ⟨.hbm, 36, rfl⟩
abbrev main_cst_13 : Ref sig .tc := ⟨.hbm, 37, rfl⟩
abbrev main_v17 : Ref sig .tc := ⟨.hbm, 38, rfl⟩
abbrev main_cst_14 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_15 : Ref sig .tc := ⟨.hbm, 44, rfl⟩
abbrev main_v22 : Ref sig .tc := ⟨.hbm, 45, rfl⟩
abbrev main_v23 : Ref sig .tc := ⟨.hbm, 46, rfl⟩
abbrev main_cst_16 : Ref sig .tc := ⟨.hbm, 47, rfl⟩
abbrev main_v24 : Ref sig .tc := ⟨.hbm, 48, rfl⟩
abbrev main_cst_17 : Ref sig .tc := ⟨.hbm, 49, rfl⟩
abbrev main_v25 : Ref sig .tc := ⟨.hbm, 50, rfl⟩
abbrev main_cst_18 : Ref sig .tc := ⟨.hbm, 51, rfl⟩
abbrev main_v26 : Ref sig .tc := ⟨.hbm, 52, rfl⟩
abbrev main_v27 : Ref sig .tc := ⟨.hbm, 53, rfl⟩
abbrev main_cst_19 : Ref sig .tc := ⟨.hbm, 54, rfl⟩
abbrev main_v28 : Ref sig .tc := ⟨.hbm, 55, rfl⟩
abbrev main_v29 : Ref sig .tc := ⟨.hbm, 56, rfl⟩
abbrev main_cst_20 : Ref sig .tc := ⟨.hbm, 57, rfl⟩
abbrev main_v30 : Ref sig .tc := ⟨.hbm, 58, rfl⟩
abbrev main_cst_21 : Ref sig .tc := ⟨.hbm, 59, rfl⟩
abbrev main_v31 : Ref sig .tc := ⟨.hbm, 60, rfl⟩
abbrev main_cst_22 : Ref sig .tc := ⟨.hbm, 61, rfl⟩
abbrev main_v32 : Ref sig .tc := ⟨.hbm, 62, rfl⟩
abbrev main_cst_23 : Ref sig .tc := ⟨.hbm, 63, rfl⟩
abbrev main_v33 : Ref sig .tc := ⟨.hbm, 64, rfl⟩
abbrev main_cst_24 : Ref sig .tc := ⟨.hbm, 65, rfl⟩
abbrev main_v34 : Ref sig .tc := ⟨.hbm, 66, rfl⟩
abbrev main_cst_25 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_26 : Ref sig .tc := ⟨.hbm, 72, rfl⟩
abbrev main_v39 : Ref sig .tc := ⟨.hbm, 73, rfl⟩
abbrev main_v40 : Ref sig .tc := ⟨.hbm, 74, rfl⟩
abbrev main_cst_27 : Ref sig .tc := ⟨.hbm, 75, rfl⟩
abbrev main_v41 : Ref sig .tc := ⟨.hbm, 76, rfl⟩
abbrev main_cst_28 : Ref sig .tc := ⟨.hbm, 77, rfl⟩
abbrev main_v42 : Ref sig .tc := ⟨.hbm, 78, rfl⟩
abbrev main_cst_29 : Ref sig .tc := ⟨.hbm, 79, rfl⟩
abbrev main_v43 : Ref sig .tc := ⟨.hbm, 80, rfl⟩
abbrev main_v44 : Ref sig .tc := ⟨.hbm, 81, rfl⟩
abbrev main_cst_30 : Ref sig .tc := ⟨.hbm, 82, rfl⟩
abbrev main_v45 : Ref sig .tc := ⟨.hbm, 83, rfl⟩
abbrev main_v46 : Ref sig .tc := ⟨.hbm, 84, rfl⟩
abbrev main_cst_31 : Ref sig .tc := ⟨.hbm, 85, rfl⟩
abbrev main_v47 : Ref sig .tc := ⟨.hbm, 86, rfl⟩
abbrev main_cst_32 : Ref sig .tc := ⟨.hbm, 87, rfl⟩
abbrev main_v48 : Ref sig .tc := ⟨.hbm, 88, rfl⟩
abbrev main_cst_33 : Ref sig .tc := ⟨.hbm, 89, rfl⟩
abbrev main_v49 : Ref sig .tc := ⟨.hbm, 90, rfl⟩
abbrev main_cst_34 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56_0 : Ref sig .tc := ⟨.hbm, 98, rfl⟩
abbrev main_v56_1 : Ref sig .tc := ⟨.hbm, 99, rfl⟩
abbrev main_v56_2 : Ref sig .tc := ⟨.hbm, 100, rfl⟩
abbrev main_v56_3 : Ref sig .tc := ⟨.hbm, 101, rfl⟩
abbrev main_v56_4 : Ref sig .tc := ⟨.hbm, 102, rfl⟩
abbrev main_v56_5 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_35 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_36 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_37 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x6656 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6656x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x6656 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6656x16384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x16384 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x16384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x6656 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6656x16384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelRun.Region0.lean ====
/- The pallas_call number 0 of `Kernel`, quant_x (quantise x, its transposed codes, its column maxima): the contents of its output windows point by point, and the triple of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x8000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- One staging buffer of output window 2, through which its contents are stated (`View.read_writes_of_cover`: the
    choice does not matter). -/
abbrev VO0_2 : View sig .tc .vmem S256x6656 .fp8e4m3 := (Memref.whole cc0_stg2_0 : Memref sig .tc .vmem S256x6656 .fp8e4m3).view
/-- One staging buffer of output window 3, through which its contents are stated (`View.read_writes_of_cover`: the
    choice does not matter). -/
abbrev VO0_3 : View sig .tc .vmem S6656x256 .fp8e4m3 := (Memref.whole cc0_stg3_0 : Memref sig .tc .vmem S6656x256 .fp8e4m3).view
/-- One staging buffer of output window 4, through which its contents are stated (`View.read_writes_of_cover`: the
    choice does not matter). -/
abbrev VO0_4 : View sig .tc .vmem S1x6656 .f32 := (Memref.whole cc0_stg4_0 : Memref sig .tc .vmem S1x6656 .f32).view
/-- Each window's current staging memref at point `t`, spelled as the pipeline passes it (`bodyAt0`), and its wholeness. -/
abbrev ms0_0 (t : Fin cfg0.N) : Memref sig .tc .smem S6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6656 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x6656 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6656x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6656 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) :
    Σ' (L2 : List (View.Piece (Elt F) S256x6656 .fp8e4m3)), Σ' (L3 : List (View.Piece (Elt F) S6656x256 .fp8e4m3)), { L4 : List (View.Piece (Elt F) S1x6656 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_quant_x i arg1 harg1 arg2 harg2 arg3 harg3 arg4 harg4 arg5 harg5) K } := by
  refine ⟨?_, ?_, ?_, fun E K => ?run⟩
  case run =>
    simp only [cc0_quant_x_eq_skeleton]; unfold cc0_quant_x_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case A's pieces for output 2 tile its block (1 store of `S256x6656`, checked by the kernel's evaluation: Lib/Ring.lean `Piece.tiledL`, linear in the pieces, through a loop's `@[irreducible]` trip theorem too), so they cover it. -/
theorem cover0_A_2 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) (y : S256x6656.Idx) :
    ∃ pc ∈ (kernelRun0_A c i arg1 harg1 arg2 harg2 arg3 harg3 arg4 harg4 arg5 harg5 hc0 hc1 x0 x1).1, y ∈ pc.1.set :=
  View.cover_of_tiledL (kernelRun0_A c i arg1 harg1 arg2 harg2 arg3 harg3 arg4 harg4 arg5 harg5 hc0 hc1 x0 x1).1 S256x6656.size (by sl_kernel_rfl) y

/-- What case A leaves in output 2's staging buffer: its pieces read back over junk. -/
def out0_A_2 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) : Vec F S256x6656 .fp8e4m3 :=
  VO0_2.read (Elt F) (VO0_2.writes (Elt F) VO0_2.junk (kernelRun0_A c i arg1 harg1 arg2 harg2 arg3 harg3 arg4 harg4 arg5 harg5 hc0 hc1 x0 x1).1)

/-- Case A's pieces for output 3 tile its block (1 store of `S6656x256`, checked by the kernel's evaluation: Lib/Ring.lean `Piece.tiledL`, linear in the pieces, through a loop's `@[irreducible]` trip theorem too), so they cover it. -/
theorem cover0_A_3 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) (y : S6656x256.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S6656x256.size (by sl_kernel_rfl) y

/-- What case A leaves in output 3's staging buffer: its pieces read back over junk. -/
def out0_A_3 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) : Vec F S6656x256 .fp8e4m3 :=
  VO0_3.read (Elt F) (VO0_3.writes (Elt F) VO0_3.junk (kernelRun0_A c i arg1 harg1 arg2 harg2 arg3 harg3 arg4 harg4 arg5 harg5 hc0 hc1 x0 x1).2.1)

/-- Case A's pieces for output 4 tile its block (1 store of `S1x6656`, checked by the kernel's evaluation: Lib/Ring.lean `Piece.tiledL`, linear in the pieces, through a loop's `@[irreducible]` trip theorem too), so they cover it. -/
theorem cover0_A_4 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) (y : S1x6656.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S1x6656.size (by sl_kernel_rfl) y

/-- What case A leaves in output 4's staging buffer: its pieces read back over junk. -/
def out0_A_4 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) : Vec F S1x6656 .f32 :=
  VO0_4.read (Elt F) (VO0_4.writes (Elt F) VO0_4.junk (kernelRun0_A c i arg1 harg1 arg2 harg2 arg3 harg3 arg4 harg4 arg5 harg5 hc0 hc1 x0 x1).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 15: 15 of 16), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) :
    Σ' (L2 : List (View.Piece (Elt F) S256x6656 .fp8e4m3)), Σ' (L3 : List (View.Piece (Elt F) S6656x256 .fp8e4m3)), { L4 : List (View.Piece (Elt F) S1x6656 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_quant_x i arg1 harg1 arg2 harg2 arg3 harg3 arg4 harg4 arg5 harg5) K } := by
  refine ⟨?_, ?_, ?_, fun E K => ?run⟩
  case run =>
    simp only [cc0_quant_x_eq_skeleton]; unfold cc0_quant_x_skel
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case B's pieces for output 2 tile its block (1 store of `S256x6656`, checked by the kernel's evaluation: Lib/Ring.lean `Piece.tiledL`, linear in the pieces, through a loop's `@[irreducible]` trip theorem too), so they cover it. -/
theorem cover0_B_2 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) (y : S256x6656.Idx) :
    ∃ pc ∈ (kernelRun0_B c i arg1 harg1 arg2 harg2 arg3 harg3 arg4 harg4 arg5 harg5 hc0 hc1 x0 x1 xo4).1, y ∈ pc.1.set :=
  View.cover_of_tiledL (kernelRun0_B c i arg1 harg1 arg2 harg2 arg3 harg3 arg4 harg4 arg5 harg5 hc0 hc1 x0 x1 xo4).1 S256x6656.size (by sl_kernel_rfl) y

/-- What case B leaves in output 2's staging buffer: its pieces read back over junk. -/
def out0_B_2 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) : Vec F S256x6656 .fp8e4m3 :=
  VO0_2.read (Elt F) (VO0_2.writes (Elt F) VO0_2.junk (kernelRun0_B c i arg1 harg1 arg2 harg2 arg3 harg3 arg4 harg4 arg5 harg5 hc0 hc1 x0 x1 xo4).1)

/-- Case B's pieces for output 3 tile its block (1 store of `S6656x256`, checked by the kernel's evaluation: Lib/Ring.lean `Piece.tiledL`, linear in the pieces, through a loop's `@[irreducible]` trip theorem too), so they cover it. -/
theorem cover0_B_3 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) (y : S6656x256.Idx) :
    ∃ pc ∈ (kernelRun0_B c i arg1 harg1 arg2 harg2 arg3 harg3 arg4 harg4 arg5 harg5 hc0 hc1 x0 x1 xo4).2.1, y ∈ pc.1.set :=
  View.cover_of_tiledL (kernelRun0_B c i arg1 harg1 arg2 harg2 arg3 harg3 arg4 harg4 arg5 harg5 hc0 hc1 x0 x1 xo4).2.1 S6656x256.size (by sl_kernel_rfl) y

/-- What case B leaves in output 3's staging buffer: its pieces read back over junk. -/
def out0_B_3 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) : Vec F S6656x256 .fp8e4m3 :=
  VO0_3.read (Elt F) (VO0_3.writes (Elt F) VO0_3.junk (kernelRun0_B c i arg1 harg1 arg2 harg2 arg3 harg3 arg4 harg4 arg5 harg5 hc0 hc1 x0 x1 xo4).2.1)

/-- Case B's pieces for output 4 tile its block (1 store of `S1x6656`, checked by the kernel's evaluation: Lib/Ring.lean `Piece.tiledL`, linear in the pieces, through a loop's `@[irreducible]` trip theorem too), so they cover it. -/
theorem cover0_B_4 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) (y : S1x6656.Idx) :
    ∃ pc ∈ (kernelRun0_B c i arg1 harg1 arg2 harg2 arg3 harg3 arg4 harg4 arg5 harg5 hc0 hc1 x0 x1 xo4).2.2.1, y ∈ pc.1.set :=
  View.cover_of_tiledL (kernelRun0_B c i arg1 harg1 arg2 harg2 arg3 harg3 arg4 harg4 arg5 harg5 hc0 hc1 x0 x1 xo4).2.2.1 S1x6656.size (by sl_kernel_rfl) y

/-- What case B leaves in output 4's staging buffer: its pieces read back over junk. -/
def out0_B_4 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) : Vec F S1x6656 .f32 :=
  VO0_4.read (Elt F) (VO0_4.writes (Elt F) VO0_4.junk (kernelRun0_B c i arg1 harg1 arg2 harg2 arg3 harg3 arg4 harg4 arg5 harg5 hc0 hc1 x0 x1 xo4).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x6656 .fp8e4m3 × Vec F S6656x256 .fp8e4m3 × Vec F S1x6656 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  have hN : t.val < 16 := lt_of_lt_of_eq t.isLt (show cfg0.N = 16 from N_0)
  rw [after0_4, after0_4]
  by_cases h0 : t.val % 16 = 0
  · by_cases h1 : 1 ≤ t.val
    · exfalso; omega
    · rw [liveAt0_4_A t ((hcond0_0 t).mpr h0) (fun h => h1 ((hcond0_1 t).mp h))] at hi
      exact absurd hi Bool.false_ne_true
  · by_cases h1 : 1 ≤ t.val
    · rw [liveAt0_4_B t (fun h => h0 ((hcond0_0 t).mp h)) ((hcond0_1 t).mpr h1)] at hi
      exact absurd hi Bool.false_ne_true
    · exfalso; omega
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 16 = 0) (h1 : 1 ≤ t.val) (d) :
    (dat0 V c).before 4 t d = (outsAt0 V c (t.val - 1) (Nat.lt_of_le_of_lt (Nat.sub_le _ _) t.isLt)).2.2 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 16 := lt_of_lt_of_eq t.isLt (show cfg0.N = 16 from N_0)
  by_cases h0 : t.val % 16 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_A t ((hcond0_0 t).mpr h0) (fun h => h1 ((hcond0_1 t).mp h))], after0_4]
      rw [outsAt0_A V c t h0 h1]
      unfold out0_A_2 out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 Set.univ _)
      isplitl [H0]; · iexact H0
      isplitl [H1]; · iexact H1
      isplitl [H2]; · iexists _; iexact H2
      isplitl [H3]; · iexists _; iexact H3
      isplitl [H4]; · iexists _; iexact H4
      iintro ⟨H0, H1, ⟨%e2, H2⟩, ⟨%e3, H3⟩, ⟨%e4, H4⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_B t (fun h => h0 ((hcond0_0 t).mp h)) ((hcond0_1 t).mpr h1)], after0_4]
      rw [outsAt0_B V c t h0 h1]
      simp only [before0_4_B V c t h0 h1]
      unfold out0_B_2 out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [H4]; · iexact H4
      iintro ⟨H0, H1, ⟨%e2, H2⟩, ⟨%e3, H3⟩, ⟨%e4, H4⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.KernelRun.Region1.lean ====
/- The pallas_call number 1 of `Kernel`, fwd (quantise w, its column maxima, y = codes of x times codes of w): the contents of its output windows point by point, and the triple of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_fwd` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 64 = 0 :=
  (fun t => by
    have ht : t.val < 64 := Nat.lt_of_lt_of_eq t.isLt N_1
    have e0 : (grid1.coords t 0).val = t.val / 1 % 64 := Pipeline.Grid.coords_val t 0 (by decide) rfl
    simp only [cond1_0, k1_cond1, e0]
    word_cmp
   : ∀ t : Fin grid1.N, cond1_0 (grid1.coords t) ↔ t.val % 64 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 64 := Nat.lt_of_lt_of_eq t.isLt N_1
    have e0 : (grid1.coords t 0).val = t.val / 1 % 64 := Pipeline.Grid.coords_val t 0 (by decide) rfl
    simp only [cond1_1, k1_cond2, e0]
    word_cmp
   : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an output stored at every point, under no condition). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab1_5_step` checks it against the configuration's own
    step point by point and Lib/Pipeline/TableIdle.lean `Cfg.fresh_tab` makes it `Cfg.fresh` (`fresh1_5_eq`). -/
def freshTab1_5 : ℕ → Bool
  | 0 => true
  | n + 1 => (0x8000000000000000 : ℕ).testBit n
theorem freshTab1_5_step : ∀ t : Fin cfg1.N,
    freshTab1_5 (t.val + 1) = ((cfg1.win 5).flush t || (cfg1.idle 5 (cfg1.grid.coords t) && freshTab1_5 t.val)) := by decide +kernel
theorem fresh1_5_eq (t : Fin cfg1.N) : cfg1.fresh 5 t.val = freshTab1_5 t.val :=
  Pipeline.Cfg.fresh_tab cfg1 5 freshTab1_5 rfl freshTab1_5_step t.val (Nat.le_of_lt t.isLt)
/-- At the points of case A the printed configuration (`Cfg.idle`) calls output 5 live: the case stores into it. -/
theorem liveAt1_5_A : ∀ t : Fin cfg1.N, cond1_0 (grid1.coords t) → ¬cond1_1 (grid1.coords t) → cfg1.idle 5 (grid1.coords t) = false := by decide +kernel
/-- At the points of case B the printed configuration (`Cfg.idle`) calls output 5 live: the case stores into it. -/
theorem liveAt1_5_B : ∀ t : Fin cfg1.N, ¬cond1_0 (grid1.coords t) → cond1_1 (grid1.coords t) → cfg1.idle 5 (grid1.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab1_5`). -/
theorem notFresh1_5_B : ∀ t : Fin cfg1.N, ¬cond1_0 (grid1.coords t) → cond1_1 (grid1.coords t) → cfg1.fresh 5 t.val = false := by
  intro t; rw [fresh1_5_eq t]; revert t; decide +kernel

/-! ## The kernel body on any staging memrefs: a subtype the run finds -/

/-- One staging buffer of output window 3, through which its contents are stated (`View.read_writes_of_cover`: the
    choice does not matter). -/
abbrev VO1_3 : View sig .tc .vmem S4096x256 .bf16 := (Memref.whole cc1_stg3_0 : Memref sig .tc .vmem S4096x256 .bf16).view
/-- One staging buffer of output window 4, through which its contents are stated (`View.read_writes_of_cover`: the
    choice does not matter). -/
abbrev VO1_4 : View sig .tc .vmem S6656x256 .fp8e4m3 := (Memref.whole cc1_stg4_0 : Memref sig .tc .vmem S6656x256 .fp8e4m3).view
/-- One staging buffer of output window 5, through which its contents are stated (`View.read_writes_of_cover`: the
    choice does not matter). -/
abbrev VO1_5 : View sig .tc .vmem S1x256 .f32 := (Memref.whole cc1_stg5_0 : Memref sig .tc .vmem S1x256 .f32).view
/-- Each window's current staging memref at point `t`, spelled as the pipeline passes it (`bodyAt1`), and its wholeness. -/
abbrev ms1_0 (t : Fin cfg1.N) : Memref sig .tc .smem S6 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x6656 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S6656x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6656x256 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) :
    Σ' (L3 : List (View.Piece (Elt F) S4096x256 .bf16)), Σ' (L4 : List (View.Piece (Elt F) S6656x256 .fp8e4m3)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1_fwd i arg1 harg1 arg2 harg2 arg3 harg3 arg4 harg4 arg5 harg5 arg6 harg6) K } := by
  refine ⟨?_, ?_, ?_, fun E K => ?run⟩
  case run =>
    simp only [cc1_fwd_eq_skeleton]; unfold cc1_fwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- Case A's pieces for output 3 tile its block (8 stores of `S512x256`, checked by the kernel's evaluation: Lib/Ring.lean `Piece.tiledL`, linear in the pieces, through a loop's `@[irreducible]` trip theorem too), so they cover it. -/
theorem cover1_A_3 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) (y : S4096x256.Idx) :
    ∃ pc ∈ (kernelRun1_A c i arg1 harg1 arg2 harg2 arg3 harg3 arg4 harg4 arg5 harg5 arg6 harg6 hc0 hc1 x0 x1 x2).1, y ∈ pc.1.set :=
  View.cover_of_tiledL (kernelRun1_A c i arg1 harg1 arg2 harg2 arg3 harg3 arg4 harg4 arg5 harg5 arg6 harg6 hc0 hc1 x0 x1 x2).1 S512x256.size (by sl_kernel_rfl) y

/-- What case A leaves in output 3's staging buffer: its pieces read back over junk. -/
def out1_A_3 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) : Vec F S4096x256 .bf16 :=
  VO1_3.read (Elt F) (VO1_3.writes (Elt F) VO1_3.junk (kernelRun1_A c i arg1 harg1 arg2 harg2 arg3 harg3 arg4 harg4 arg5 harg5 arg6 harg6 hc0 hc1 x0 x1 x2).1)

/-- Case A's pieces for output 4 tile its block (26 stores of `S256x256`, checked by the kernel's evaluation: Lib/Ring.lean `Piece.tiledL`, linear in the pieces, through a loop's `@[irreducible]` trip theorem too), so they cover it. -/
theorem cover1_A_4 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) (y : S6656x256.Idx) :
    ∃ pc ∈ (kernelRun1_A c i arg1 harg1 arg2 harg2 arg3 harg3 arg4 harg4 arg5 harg5 arg6 harg6 hc0 hc1 x0 x1 x2).2.1, y ∈ pc.1.set :=
  View.cover_of_tiledL (kernelRun1_A c i arg1 harg1 arg2 harg2 arg3 harg3 arg4 harg4 arg5 harg5 arg6 harg6 hc0 hc1 x0 x1 x2).2.1 S256x256.size (by sl_kernel_rfl) y

/-- What case A leaves in output 4's staging buffer: its pieces read back over junk. -/
def out1_A_4 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) : Vec F S6656x256 .fp8e4m3 :=
  VO1_4.read (Elt F) (VO1_4.writes (Elt F) VO1_4.junk (kernelRun1_A c i arg1 harg1 arg2 harg2 arg3 harg3 arg4 harg4 arg5 harg5 arg6 harg6 hc0 hc1 x0 x1 x2).2.1)

/-- Case A's pieces for output 5 tile its block (1 store of `S1x256`, checked by the kernel's evaluation: Lib/Ring.lean `Piece.tiledL`, linear in the pieces, through a loop's `@[irreducible]` trip theorem too), so they cover it. -/
theorem cover1_A_5 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) (y : S1x256.Idx) :
    ∃ pc ∈ (kernelRun1_A c i arg1 harg1 arg2 harg2 arg3 harg3 arg4 harg4 arg5 harg5 arg6 harg6 hc0 hc1 x0 x1 x2).2.2.1, y ∈ pc.1.set :=
  View.cover_of_tiledL (kernelRun1_A c i arg1 harg1 arg2 harg2 arg3 harg3 arg4 harg4 arg5 harg5 arg6 harg6 hc0 hc1 x0 x1 x2).2.2.1 S1x256.size (by sl_kernel_rfl) y

/-- What case A leaves in output 5's staging buffer: its pieces read back over junk. -/
def out1_A_5 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) : Vec F S1x256 .f32 :=
  VO1_5.read (Elt F) (VO1_5.writes (Elt F) VO1_5.junk (kernelRun1_A c i arg1 harg1 arg2 harg2 arg3 harg3 arg4 harg4 arg5 harg5 arg6 harg6 hc0 hc1 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 63 of 64), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) :
    Σ' (L3 : List (View.Piece (Elt F) S4096x256 .bf16)), Σ' (L4 : List (View.Piece (Elt F) S6656x256 .fp8e4m3)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1_fwd i arg1 harg1 arg2 harg2 arg3 harg3 arg4 harg4 arg5 harg5 arg6 harg6) K } := by
  refine ⟨?_, ?_, ?_, fun E K => ?run⟩
  case run =>
    simp only [cc1_fwd_eq_skeleton]; unfold cc1_fwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    obtain rfl := harg1.eq_unread hf0; obtain rfl := harg2.eq_unread hf1; obtain rfl := harg3.eq_unread hf2; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- Case B's pieces for output 3 tile its block (8 stores of `S512x256`, checked by the kernel's evaluation: Lib/Ring.lean `Piece.tiledL`, linear in the pieces, through a loop's `@[irreducible]` trip theorem too), so they cover it. -/
theorem cover1_B_3 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) (y : S4096x256.Idx) :
    ∃ pc ∈ (kernelRun1_B c i arg1 harg1 arg2 harg2 arg3 harg3 arg4 harg4 arg5 harg5 arg6 harg6 hc0 hc1 x0 x1 x2 xo5).1, y ∈ pc.1.set :=
  View.cover_of_tiledL (kernelRun1_B c i arg1 harg1 arg2 harg2 arg3 harg3 arg4 harg4 arg5 harg5 arg6 harg6 hc0 hc1 x0 x1 x2 xo5).1 S512x256.size (by sl_kernel_rfl) y

/-- What case B leaves in output 3's staging buffer: its pieces read back over junk. -/
def out1_B_3 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) : Vec F S4096x256 .bf16 :=
  VO1_3.read (Elt F) (VO1_3.writes (Elt F) VO1_3.junk (kernelRun1_B c i arg1 harg1 arg2 harg2 arg3 harg3 arg4 harg4 arg5 harg5 arg6 harg6 hc0 hc1 x0 x1 x2 xo5).1)

/-- Case B's pieces for output 4 tile its block (26 stores of `S256x256`, checked by the kernel's evaluation: Lib/Ring.lean `Piece.tiledL`, linear in the pieces, through a loop's `@[irreducible]` trip theorem too), so they cover it. -/
theorem cover1_B_4 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) (y : S6656x256.Idx) :
    ∃ pc ∈ (kernelRun1_B c i arg1 harg1 arg2 harg2 arg3 harg3 arg4 harg4 arg5 harg5 arg6 harg6 hc0 hc1 x0 x1 x2 xo5).2.1, y ∈ pc.1.set :=
  View.cover_of_tiledL (kernelRun1_B c i arg1 harg1 arg2 harg2 arg3 harg3 arg4 harg4 arg5 harg5 arg6 harg6 hc0 hc1 x0 x1 x2 xo5).2.1 S256x256.size (by sl_kernel_rfl) y

/-- What case B leaves in output 4's staging buffer: its pieces read back over junk. -/
def out1_B_4 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) : Vec F S6656x256 .fp8e4m3 :=
  VO1_4.read (Elt F) (VO1_4.writes (Elt F) VO1_4.junk (kernelRun1_B c i arg1 harg1 arg2 harg2 arg3 harg3 arg4 harg4 arg5 harg5 arg6 harg6 hc0 hc1 x0 x1 x2 xo5).2.1)

/-- Case B's pieces for output 5 tile its block (1 store of `S1x256`, checked by the kernel's evaluation: Lib/Ring.lean `Piece.tiledL`, linear in the pieces, through a loop's `@[irreducible]` trip theorem too), so they cover it. -/
theorem cover1_B_5 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) (y : S1x256.Idx) :
    ∃ pc ∈ (kernelRun1_B c i arg1 harg1 arg2 harg2 arg3 harg3 arg4 harg4 arg5 harg5 arg6 harg6 hc0 hc1 x0 x1 x2 xo5).2.2.1, y ∈ pc.1.set :=
  View.cover_of_tiledL (kernelRun1_B c i arg1 harg1 arg2 harg2 arg3 harg3 arg4 harg4 arg5 harg5 arg6 harg6 hc0 hc1 x0 x1 x2 xo5).2.2.1 S1x256.size (by sl_kernel_rfl) y

/-- What case B leaves in output 5's staging buffer: its pieces read back over junk. -/
def out1_B_5 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) : Vec F S1x256 .f32 :=
  VO1_5.read (Elt F) (VO1_5.writes (Elt F) VO1_5.junk (kernelRun1_B c i arg1 harg1 arg2 harg2 arg3 harg3 arg4 harg4 arg5 harg5 arg6 harg6 hc0 hc1 x0 x1 x2 xo5).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S4096x256 .bf16 × Vec F S6656x256 .fp8e4m3 × Vec F S1x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 64 = 0 then
      if h1 : 1 ≤ (n + 1) then
        False.elim (by have hN : n + 1 < 64 := lt_of_lt_of_eq hn (show cfg1.N = 64 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : 1 ≤ (n + 1) then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        False.elim (by have hN : n + 1 < 64 := lt_of_lt_of_eq hn (show cfg1.N = 64 from N_1); omega)

/-- `outsAt1` at a point of case A: that case's contents. -/
theorem outsAt1_A (c : Dev nD) (t : Fin cfg1.N) (h0 : t.val % 64 = 0) (h1 : ¬1 ≤ t.val) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 64 = 0) (h1 : 1 ≤ t.val) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Output 5's contents CARRY through the points that leave it idle: at such a point, its buffer not fresh, the proof data's
    `after` is the point before's (the case there stores nothing into the window and its term says so; a case that stores
    into it is not idle there by `liveAt1_5_κ`) — the hypothesis of Lib/Pipeline/TableIdle.lean `Dat.before_out_traj`. -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 64 := lt_of_lt_of_eq t.isLt (show cfg1.N = 64 from N_1)
  rw [after1_5, after1_5]
  by_cases h0 : t.val % 64 = 0
  · by_cases h1 : 1 ≤ t.val
    · exfalso; omega
    · rw [liveAt1_5_A t ((hcond1_0 t).mpr h0) (fun h => h1 ((hcond1_1 t).mp h))] at hi
      exact absurd hi Bool.false_ne_true
  · by_cases h1 : 1 ≤ t.val
    · rw [liveAt1_5_B t (fun h => h0 ((hcond1_0 t).mp h)) ((hcond1_1 t).mpr h1)] at hi
      exact absurd hi Bool.false_ne_true
    · exfalso; omega
/-- At a point of case B output 5's current staging buffer holds what the point before left: the buffer is not fresh
    there (`notFresh1_5_B`: stored into since the region's entry or the last write-back, carried through the points that
    leave it idle by `hcarry1_5`; Lib/Pipeline/TableIdle.lean `Dat.before_out_traj`). -/
theorem before1_5_B (c : Dev nD) (t : Fin cfg1.N) (h0 : ¬t.val % 64 = 0) (h1 : 1 ≤ t.val) (d) :
    (dat1 V c).before 5 t d = (outsAt1 V c (t.val - 1) (Nat.lt_of_le_of_lt (Nat.sub_le _ _) t.isLt)).2.2 := by
  rw [Dat.before_out_traj _ 5 rfl (fun _ _ => rfl) (hcarry1_5 V c) t.val t rfl d,
    if_neg (by rw [notFresh1_5_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  have hN : t.val < 64 := lt_of_lt_of_eq t.isLt (show cfg1.N = 64 from N_1)
  by_cases h0 : t.val % 64 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h))], after1_5]
      rw [outsAt1_A V c t h0 h1]
      unfold out1_A_3 out1_A_4 out1_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _)
      isplitl [H4]
      · unfold owns; iexists _; isplitr
        swap; · iexact H4
        ipureintro; exact View.read_writes_of_cover _ _ _ _ _ (cover1_A_4 c _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
      rw [outsAt1_B V c t h0 h1]
      simp only [before1_5_B V c t h0 h1]
      unfold out1_B_3 out1_B_4 out1_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) ((hcond1_1 t).mpr h1) (iblk1 V c 0 t) (iblk1 V c 1 t) (iblk1 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [H5]; · iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _ _)
      isplitl [H4]
      · unfold owns; iexists _; isplitr
        swap; · iexact H4
        ipureintro; exact View.read_writes_of_cover _ _ _ _ _ (cover1_B_4 c _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.KernelRun.Region2.lean ====
/- The pallas_call number 2 of `Kernel`, dw (quantise dy, its column maxima, dw = transposed codes of x times codes of dy): the contents of its output windows point by point, and the triple of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_dw` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the first point only — by arithmetic of the point. -/
theorem hcond2_0 : ∀ t : Fin cfg2.N, cond2_0 (grid2.coords t) ↔ t.val % 64 = 0 :=
  (fun t => by
    have ht : t.val < 64 := Nat.lt_of_lt_of_eq t.isLt N_2
    have e0 : (grid2.coords t 0).val = t.val / 1 % 64 := Pipeline.Grid.coords_val t 0 (by decide) rfl
    simp only [cond2_0, k2_cond1, e0]
    word_cmp
   : ∀ t : Fin grid2.N, cond2_0 (grid2.coords t) ↔ t.val % 64 = 0)

/-- The condition of the body's `scf.if` 1 (`k2_h2`), from the grid coordinates (the skeleton's scalar
    chain substituted). -/
abbrev cond2_1 (i : grid2.Coords) : Prop := k2_cond2 i = 1#1
/-- It holds at the points from point 1 on — by arithmetic of the point. -/
theorem hcond2_1 : ∀ t : Fin cfg2.N, cond2_1 (grid2.coords t) ↔ 1 ≤ t.val :=
  (fun t => by
    have ht : t.val < 64 := Nat.lt_of_lt_of_eq t.isLt N_2
    have e0 : (grid2.coords t 0).val = t.val / 1 % 64 := Pipeline.Grid.coords_val t 0 (by decide) rfl
    simp only [cond2_1, k2_cond2, e0]
    word_cmp
   : ∀ t : Fin grid2.N, cond2_1 (grid2.coords t) ↔ 1 ≤ t.val)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an output stored at every point, under no condition). -/
theorem liveAt2_3 : ∀ t : Fin cfg2.N, cfg2.idle 3 (grid2.coords t) = false := fun _ => rfl
/-- Window 4 is never idle (an output stored at every point, under no condition). -/
theorem liveAt2_4 : ∀ t : Fin cfg2.N, cfg2.idle 4 (grid2.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab2_5_step` checks it against the configuration's own
    step point by point and Lib/Pipeline/TableIdle.lean `Cfg.fresh_tab` makes it `Cfg.fresh` (`fresh2_5_eq`). -/
def freshTab2_5 : ℕ → Bool
  | 0 => true
  | n + 1 => (0x8000000000000000 : ℕ).testBit n
theorem freshTab2_5_step : ∀ t : Fin cfg2.N,
    freshTab2_5 (t.val + 1) = ((cfg2.win 5).flush t || (cfg2.idle 5 (cfg2.grid.coords t) && freshTab2_5 t.val)) := by decide +kernel
theorem fresh2_5_eq (t : Fin cfg2.N) : cfg2.fresh 5 t.val = freshTab2_5 t.val :=
  Pipeline.Cfg.fresh_tab cfg2 5 freshTab2_5 rfl freshTab2_5_step t.val (Nat.le_of_lt t.isLt)
/-- At the points of case A the printed configuration (`Cfg.idle`) calls output 5 live: the case stores into it. -/
theorem liveAt2_5_A : ∀ t : Fin cfg2.N, cond2_0 (grid2.coords t) → ¬cond2_1 (grid2.coords t) → cfg2.idle 5 (grid2.coords t) = false := by decide +kernel
/-- At the points of case B the printed configuration (`Cfg.idle`) calls output 5 live: the case stores into it. -/
theorem liveAt2_5_B : ∀ t : Fin cfg2.N, ¬cond2_0 (grid2.coords t) → cond2_1 (grid2.coords t) → cfg2.idle 5 (grid2.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab2_5`). -/
theorem notFresh2_5_B : ∀ t : Fin cfg2.N, ¬cond2_0 (grid2.coords t) → cond2_1 (grid2.coords t) → cfg2.fresh 5 t.val = false := by
  intro t; rw [fresh2_5_eq t]; revert t; decide +kernel

/-! ## The kernel body on any staging memrefs: a subtype the run finds -/

/-- One staging buffer of output window 3, through which its contents are stated (`View.read_writes_of_cover`: the
    choice does not matter). -/
abbrev VO2_3 : View sig .tc .vmem S6656x256 .f32 := (Memref.whole cc2_stg3_0 : Memref sig .tc .vmem S6656x256 .f32).view
/-- One staging buffer of output window 4, through which its contents are stated (`View.read_writes_of_cover`: the
    choice does not matter). -/
abbrev VO2_4 : View sig .tc .vmem S4096x256 .fp8e5m2 := (Memref.whole cc2_stg4_0 : Memref sig .tc .vmem S4096x256 .fp8e5m2).view
/-- One staging buffer of output window 5, through which its contents are stated (`View.read_writes_of_cover`: the
    choice does not matter). -/
abbrev VO2_5 : View sig .tc .vmem S1x256 .f32 := (Memref.whole cc2_stg5_0 : Memref sig .tc .vmem S1x256 .f32).view
/-- Each window's current staging memref at point `t`, spelled as the pipeline passes it (`bodyAt2`), and its wholeness. -/
abbrev ms2_0 (t : Fin cfg2.N) : Memref sig .tc .smem S6 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6656x4096 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S6656x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x256 .fp8e5m2 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) :
    Σ' (L3 : List (View.Piece (Elt F) S6656x256 .f32)), Σ' (L4 : List (View.Piece (Elt F) S4096x256 .fp8e5m2)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc2_dw i arg1 harg1 arg2 harg2 arg3 harg3 arg4 harg4 arg5 harg5 arg6 harg6) K } := by
  refine ⟨?_, ?_, ?_, fun E K => ?run⟩
  case run =>
    simp only [cc2_dw_eq_skeleton]; unfold cc2_dw_skel
    simp only [k2_part10_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- Case A's pieces for output 3 tile its block (13 stores of `S512x256`, checked by the kernel's evaluation: Lib/Ring.lean `Piece.tiledL`, linear in the pieces, through a loop's `@[irreducible]` trip theorem too), so they cover it. -/
theorem cover2_A_3 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) (y : S6656x256.Idx) :
    ∃ pc ∈ (kernelRun2_A c i arg1 harg1 arg2 harg2 arg3 harg3 arg4 harg4 arg5 harg5 arg6 harg6 hc0 hc1 x0 x1 x2).1, y ∈ pc.1.set :=
  View.cover_of_tiledL (kernelRun2_A c i arg1 harg1 arg2 harg2 arg3 harg3 arg4 harg4 arg5 harg5 arg6 harg6 hc0 hc1 x0 x1 x2).1 S512x256.size (by sl_kernel_rfl) y

/-- What case A leaves in output 3's staging buffer: its pieces read back over junk. -/
def out2_A_3 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) : Vec F S6656x256 .f32 :=
  VO2_3.read (Elt F) (VO2_3.writes (Elt F) VO2_3.junk (kernelRun2_A c i arg1 harg1 arg2 harg2 arg3 harg3 arg4 harg4 arg5 harg5 arg6 harg6 hc0 hc1 x0 x1 x2).1)

/-- Case A's pieces for output 4 tile its block (16 stores of `S256x256`, checked by the kernel's evaluation: Lib/Ring.lean `Piece.tiledL`, linear in the pieces, through a loop's `@[irreducible]` trip theorem too), so they cover it. -/
theorem cover2_A_4 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) (y : S4096x256.Idx) :
    ∃ pc ∈ (kernelRun2_A c i arg1 harg1 arg2 harg2 arg3 harg3 arg4 harg4 arg5 harg5 arg6 harg6 hc0 hc1 x0 x1 x2).2.1, y ∈ pc.1.set :=
  View.cover_of_tiledL (kernelRun2_A c i arg1 harg1 arg2 harg2 arg3 harg3 arg4 harg4 arg5 harg5 arg6 harg6 hc0 hc1 x0 x1 x2).2.1 S256x256.size (by sl_kernel_rfl) y

/-- What case A leaves in output 4's staging buffer: its pieces read back over junk. -/
def out2_A_4 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) : Vec F S4096x256 .fp8e5m2 :=
  VO2_4.read (Elt F) (VO2_4.writes (Elt F) VO2_4.junk (kernelRun2_A c i arg1 harg1 arg2 harg2 arg3 harg3 arg4 harg4 arg5 harg5 arg6 harg6 hc0 hc1 x0 x1 x2).2.1)

/-- Case A's pieces for output 5 tile its block (1 store of `S1x256`, checked by the kernel's evaluation: Lib/Ring.lean `Piece.tiledL`, linear in the pieces, through a loop's `@[irreducible]` trip theorem too), so they cover it. -/
theorem cover2_A_5 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) (y : S1x256.Idx) :
    ∃ pc ∈ (kernelRun2_A c i arg1 harg1 arg2 harg2 arg3 harg3 arg4 harg4 arg5 harg5 arg6 harg6 hc0 hc1 x0 x1 x2).2.2.1, y ∈ pc.1.set :=
  View.cover_of_tiledL (kernelRun2_A c i arg1 harg1 arg2 harg2 arg3 harg3 arg4 harg4 arg5 harg5 arg6 harg6 hc0 hc1 x0 x1 x2).2.2.1 S1x256.size (by sl_kernel_rfl) y

/-- What case A leaves in output 5's staging buffer: its pieces read back over junk. -/
def out2_A_5 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) : Vec F S1x256 .f32 :=
  VO2_5.read (Elt F) (VO2_5.writes (Elt F) VO2_5.junk (kernelRun2_A c i arg1 harg1 arg2 harg2 arg3 harg3 arg4 harg4 arg5 harg5 arg6 harg6 hc0 hc1 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 63 of 64), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) :
    Σ' (L3 : List (View.Piece (Elt F) S6656x256 .f32)), Σ' (L4 : List (View.Piece (Elt F) S4096x256 .fp8e5m2)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc2_dw i arg1 harg1 arg2 harg2 arg3 harg3 arg4 harg4 arg5 harg5 arg6 harg6) K } := by
  refine ⟨?_, ?_, ?_, fun E K => ?run⟩
  case run =>
    simp only [cc2_dw_eq_skeleton]; unfold cc2_dw_skel
    simp only [k2_part10_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    obtain rfl := harg1.eq_unread hf0; obtain rfl := harg2.eq_unread hf1; obtain rfl := harg3.eq_unread hf2; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- Case B's pieces for output 3 tile its block (13 stores of `S512x256`, checked by the kernel's evaluation: Lib/Ring.lean `Piece.tiledL`, linear in the pieces, through a loop's `@[irreducible]` trip theorem too), so they cover it. -/
theorem cover2_B_3 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) (y : S6656x256.Idx) :
    ∃ pc ∈ (kernelRun2_B c i arg1 harg1 arg2 harg2 arg3 harg3 arg4 harg4 arg5 harg5 arg6 harg6 hc0 hc1 x0 x1 x2 xo5).1, y ∈ pc.1.set :=
  View.cover_of_tiledL (kernelRun2_B c i arg1 harg1 arg2 harg2 arg3 harg3 arg4 harg4 arg5 harg5 arg6 harg6 hc0 hc1 x0 x1 x2 xo5).1 S512x256.size (by sl_kernel_rfl) y

/-- What case B leaves in output 3's staging buffer: its pieces read back over junk. -/
def out2_B_3 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) : Vec F S6656x256 .f32 :=
  VO2_3.read (Elt F) (VO2_3.writes (Elt F) VO2_3.junk (kernelRun2_B c i arg1 harg1 arg2 harg2 arg3 harg3 arg4 harg4 arg5 harg5 arg6 harg6 hc0 hc1 x0 x1 x2 xo5).1)

/-- Case B's pieces for output 4 tile its block (16 stores of `S256x256`, checked by the kernel's evaluation: Lib/Ring.lean `Piece.tiledL`, linear in the pieces, through a loop's `@[irreducible]` trip theorem too), so they cover it. -/
theorem cover2_B_4 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) (y : S4096x256.Idx) :
    ∃ pc ∈ (kernelRun2_B c i arg1 harg1 arg2 harg2 arg3 harg3 arg4 harg4 arg5 harg5 arg6 harg6 hc0 hc1 x0 x1 x2 xo5).2.1, y ∈ pc.1.set :=
  View.cover_of_tiledL (kernelRun2_B c i arg1 harg1 arg2 harg2 arg3 harg3 arg4 harg4 arg5 harg5 arg6 harg6 hc0 hc1 x0 x1 x2 xo5).2.1 S256x256.size (by sl_kernel_rfl) y

/-- What case B leaves in output 4's staging buffer: its pieces read back over junk. -/
def out2_B_4 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) : Vec F S4096x256 .fp8e5m2 :=
  VO2_4.read (Elt F) (VO2_4.writes (Elt F) VO2_4.junk (kernelRun2_B c i arg1 harg1 arg2 harg2 arg3 harg3 arg4 harg4 arg5 harg5 arg6 harg6 hc0 hc1 x0 x1 x2 xo5).2.1)

/-- Case B's pieces for output 5 tile its block (1 store of `S1x256`, checked by the kernel's evaluation: Lib/Ring.lean `Piece.tiledL`, linear in the pieces, through a loop's `@[irreducible]` trip theorem too), so they cover it. -/
theorem cover2_B_5 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) (y : S1x256.Idx) :
    ∃ pc ∈ (kernelRun2_B c i arg1 harg1 arg2 harg2 arg3 harg3 arg4 harg4 arg5 harg5 arg6 harg6 hc0 hc1 x0 x1 x2 xo5).2.2.1, y ∈ pc.1.set :=
  View.cover_of_tiledL (kernelRun2_B c i arg1 harg1 arg2 harg2 arg3 harg3 arg4 harg4 arg5 harg5 arg6 harg6 hc0 hc1 x0 x1 x2 xo5).2.2.1 S1x256.size (by sl_kernel_rfl) y

/-- What case B leaves in output 5's staging buffer: its pieces read back over junk. -/
def out2_B_5 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) : Vec F S1x256 .f32 :=
  VO2_5.read (Elt F) (VO2_5.writes (Elt F) VO2_5.junk (kernelRun2_B c i arg1 harg1 arg2 harg2 arg3 harg3 arg4 harg4 arg5 harg5 arg6 harg6 hc0 hc1 x0 x1 x2 xo5).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S6656x256 .f32 × Vec F S4096x256 .fp8e5m2 × Vec F S1x256 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 64 = 0 then
      if h1 : 1 ≤ (n + 1) then
        False.elim (by have hN : n + 1 < 64 := lt_of_lt_of_eq hn (show cfg2.N = 64 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : 1 ≤ (n + 1) then
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else
        False.elim (by have hN : n + 1 < 64 := lt_of_lt_of_eq hn (show cfg2.N = 64 from N_2); omega)

/-- `outsAt2` at a point of case A: that case's contents. -/
theorem outsAt2_A (c : Dev nD) (t : Fin cfg2.N) (h0 : t.val % 64 = 0) (h1 : ¬1 ≤ t.val) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 64 = 0) (h1 : 1 ≤ t.val) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Output 5's contents CARRY through the points that leave it idle: at such a point, its buffer not fresh, the proof data's
    `after` is the point before's (the case there stores nothing into the window and its term says so; a case that stores
    into it is not idle there by `liveAt2_5_κ`) — the hypothesis of Lib/Pipeline/TableIdle.lean `Dat.before_out_traj`. -/
theorem hcarry2_5 (c : Dev nD) : ∀ (t : Fin cfg2.N) (_ : t.val ≠ 0), cfg2.idle 5 (grid2.coords t) = true → cfg2.fresh 5 t.val = false →
    (dat2 V c).after 5 t = (dat2 V c).after 5 ⟨t.val - 1, by omega⟩ := by
  intro t _ hi _
  have hN : t.val < 64 := lt_of_lt_of_eq t.isLt (show cfg2.N = 64 from N_2)
  rw [after2_5, after2_5]
  by_cases h0 : t.val % 64 = 0
  · by_cases h1 : 1 ≤ t.val
    · exfalso; omega
    · rw [liveAt2_5_A t ((hcond2_0 t).mpr h0) (fun h => h1 ((hcond2_1 t).mp h))] at hi
      exact absurd hi Bool.false_ne_true
  · by_cases h1 : 1 ≤ t.val
    · rw [liveAt2_5_B t (fun h => h0 ((hcond2_0 t).mp h)) ((hcond2_1 t).mpr h1)] at hi
      exact absurd hi Bool.false_ne_true
    · exfalso; omega
/-- At a point of case B output 5's current staging buffer holds what the point before left: the buffer is not fresh
    there (`notFresh2_5_B`: stored into since the region's entry or the last write-back, carried through the points that
    leave it idle by `hcarry2_5`; Lib/Pipeline/TableIdle.lean `Dat.before_out_traj`). -/
theorem before2_5_B (c : Dev nD) (t : Fin cfg2.N) (h0 : ¬t.val % 64 = 0) (h1 : 1 ≤ t.val) (d) :
    (dat2 V c).before 5 t d = (outsAt2 V c (t.val - 1) (Nat.lt_of_le_of_lt (Nat.sub_le _ _) t.isLt)).2.2 := by
  rw [Dat.before_out_traj _ 5 rfl (fun _ _ => rfl) (hcarry2_5 V c) t.val t rfl d,
    if_neg (by rw [notFresh2_5_B t (fun h => h0 ((hcond2_0 t).mp h)) ((hcond2_1 t).mpr h1)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 800000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl]
  have hN : t.val < 64 := lt_of_lt_of_eq t.isLt (show cfg2.N = 64 from N_2)
  by_cases h0 : t.val % 64 = 0
  · by_cases h1 : 1 ≤ t.val
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5_A t ((hcond2_0 t).mpr h0) (fun h => h1 ((hcond2_1 t).mp h))], after2_5]
      rw [outsAt2_A V c t h0 h1]
      unfold out2_A_3 out2_A_4 out2_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_A_3 c _ _ _ _ _ _ _ _ _ _ _ _ _ _ _ _ _ _)
      isplitl [H4]
      · unfold owns; iexists _; isplitr
        swap; · iexact H4
        ipureintro; exact View.read_writes_of_cover _ _ _ _ _ (cover2_A_4 c _ _ _ _ _ _ _ _ _ _ _ _ _ _ _ _ _ _)
      unfold owns; iexists _; isplitr
      swap; · iexact H5
      ipureintro; exact View.read_writes_of_cover _ _ _ _ _ (cover2_A_5 c _ _ _ _ _ _ _ _ _ _ _ _ _ _ _ _ _ _)
  · by_cases h1 : 1 ≤ t.val
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5_B t (fun h => h0 ((hcond2_0 t).mp h)) ((hcond2_1 t).mpr h1)], after2_5]
      rw [outsAt2_B V c t h0 h1]
      simp only [before2_5_B V c t h0 h1]
      unfold out2_B_3 out2_B_4 out2_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ (fun h => h0 ((hcond2_0 t).mp h)) ((hcond2_1 t).mpr h1) (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [H5]; · iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_B_3 c _ _ _ _ _ _ _ _ _ _ _ _ _ _ _ _ _ _ _)
      isplitl [H4]
      · unfold owns; iexists _; isplitr
        swap; · iexact H4
        ipureintro; exact View.read_writes_of_cover _ _ _ _ _ (cover2_B_4 c _ _ _ _ _ _ _ _ _ _ _ _ _ _ _ _ _ _ _)
      unfold owns; iexists _; isplitr
      swap; · iexact H5
      ipureintro; exact View.read_writes_of_cover _ _ _ _ _ (cover2_B_5 c _ _ _ _ _ _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Gen

end
-- ==== Proof.KernelRun.Region3.lean ====
/- The pallas_call number 3 of `Kernel`, dx (dx = codes of dy times transposed codes of w): the contents of its output windows point by point, and the triple of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_dx` (pipeline 3), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 3, through which its contents are stated (`View.read_writes_of_cover`: the
    choice does not matter). -/
abbrev VO3_3 : View sig .tc .vmem S1024x512 .bf16 := (Memref.whole cc3_stg3_0 : Memref sig .tc .vmem S1024x512 .bf16).view
/-- Each window's current staging memref at point `t`, spelled as the pipeline passes it (`bodyAt3`), and its wholeness. -/
abbrev ms3_0 (t : Fin cfg3.N) : Memref sig .tc .smem S6 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x16384 .fp8e5m2 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x16384 .fp8e4m3 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .bf16 := win3_3.stage (cfg3.slots t 3)
abbrev hs3_3 (t : Fin cfg3.N) : (ms3_3 t).IsWhole := hstage3_3 ((cfg3.slots t 3).cast nbuf3_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg2 : Memref sig .tc .smem S6 .f32) (harg2 : arg2.IsWhole) (arg3 : Memref sig .tc .vmem S1024x16384 .fp8e5m2) (harg3 : arg3.IsWhole) (arg4 : Memref sig .tc .vmem S512x16384 .fp8e4m3) (harg4 : arg4.IsWhole) (arg5 : Memref sig .tc .vmem S1024x512 .bf16) (harg5 : arg5.IsWhole)
    (x0 : Vec F S6 .f32) (x1 : Vec F S1024x16384 .fp8e5m2) (x2 : Vec F S512x16384 .fp8e4m3) :
    { L3 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc3_dx i arg2 harg2 arg3 harg3 arg4 harg4 arg5 harg5) K } := by
  refine ⟨?_, fun E K => ?run⟩
  case run =>
    simp only [cc3_dx_eq_skeleton]; unfold cc3_dx_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for output 3 tile its block (2 stores of `S512x512`, checked by the kernel's evaluation: Lib/Ring.lean `Piece.tiledL`, linear in the pieces, through a loop's `@[irreducible]` trip theorem too), so they cover it. -/
theorem cover3_A_3 (c : Dev nD) (i : grid3.Coords) (arg2 : Memref sig .tc .smem S6 .f32) (harg2 : arg2.IsWhole) (arg3 : Memref sig .tc .vmem S1024x16384 .fp8e5m2) (harg3 : arg3.IsWhole) (arg4 : Memref sig .tc .vmem S512x16384 .fp8e4m3) (harg4 : arg4.IsWhole) (arg5 : Memref sig .tc .vmem S1024x512 .bf16) (harg5 : arg5.IsWhole)
    (x0 : Vec F S6 .f32) (x1 : Vec F S1024x16384 .fp8e5m2) (x2 : Vec F S512x16384 .fp8e4m3) (y : S1024x512.Idx) :
    ∃ pc ∈ (kernelRun3_A c i arg2 harg2 arg3 harg3 arg4 harg4 arg5 harg5 x0 x1 x2).1, y ∈ pc.1.set :=
  View.cover_of_tiledL (kernelRun3_A c i arg2 harg2 arg3 harg3 arg4 harg4 arg5 harg5 x0 x1 x2).1 S512x512.size (by sl_kernel_rfl) y

/-- What the run leaves in output 3's staging buffer: its pieces read back over junk. -/
def out3_A_3 (c : Dev nD) (i : grid3.Coords) (arg2 : Memref sig .tc .smem S6 .f32) (harg2 : arg2.IsWhole) (arg3 : Memref sig .tc .vmem S1024x16384 .fp8e5m2) (harg3 : arg3.IsWhole) (arg4 : Memref sig .tc .vmem S512x16384 .fp8e4m3) (harg4 : arg4.IsWhole) (arg5 : Memref sig .tc .vmem S1024x512 .bf16) (harg5 : arg5.IsWhole)
    (x0 : Vec F S6 .f32) (x1 : Vec F S1024x16384 .fp8e5m2) (x2 : Vec F S512x16384 .fp8e4m3) : Vec F S1024x512 .bf16 :=
  VO3_3.read (Elt F) (VO3_3.writes (Elt F) VO3_3.junk (kernelRun3_A c i arg2 harg2 arg3 harg3 arg4 harg4 arg5 harg5 x0 x1 x2).1)

/-! ## What the outputs hold after each point -/

/-- What the outputs' staging buffers hold after the body at point `t`: the run's contents at
    the point's memrefs and input blocks. -/
def outsAt3 (c : Dev nD) (t : Fin cfg3.N) : Vec F S1024x512 .bf16 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.Kernel.Gen

end
-- ==== Proof.KernelRun.Hosts0.lean ====
/- The host stretches of `Kernel`: what each writes and what it leaves as it was. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_cst_0, main_v3, main_v4, main_c, main_v5, main_v6, main_c_1, main_v7, main_v8, main_v9, main_v10, main_v11, main_v12, main_v13, main_c_2, main_v14, main_c_3, main_v15, main_c_4, main_v16, main_v17, main_c_5, main_v18, main_c_6, main_v19, main_cst_7, main_v20, main_c_8]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v21]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_c_9, main_v22, main_c_10, main_c_11, main_v23, main_c_12, main_v24, main_v25, main_v26, main_c_13, main_v27, main_c_14, main_c_15, main_v28, main_c_16, main_v29, main_v30, main_cst_17, main_v31, main_cst_18, main_v32, main_v33, main_c_19, main_v34, main_v35, main_c_20, main_v36, main_v37, main_v38, main_v39, main_v40, main_v41, main_v42, main_c_21, main_v43, main_c_22, main_v44, main_c_23, main_v45, main_v46, main_c_24, main_v47, main_c_25, main_v48, main_cst_26, main_v49, main_c_27]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_v50]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_c_28, main_v51, main_c_29, main_c_30, main_v52, main_c_31, main_v53, main_v54, main_v55, main_c_32, main_v56, main_c_33, main_c_34, main_v57, main_c_35, main_v58, main_v59, main_cst_36, main_v60, main_cst_37, main_v61, main_v62, main_c_38, main_v63, main_v64, main_c_39, main_v65, main_v66, main_v67, main_v68, main_v69, main_v70, main_v71, main_c_40, main_v72, main_c_41, main_v73, main_c_42, main_v74, main_v75, main_c_43, main_v76, main_c_44, main_v77, main_cst_45, main_v78, main_c_46]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_v79]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_c_47, main_v80, main_c_48, main_c_49, main_v81, main_c_50, main_v82, main_v83, main_v84, main_c_51, main_v85, main_c_52, main_c_53, main_v86, main_c_54, main_v87, main_v88, main_v89, main_v90, main_v91, main_v92, main_v93, main_v94, main_v95, main_v96, main_v97, main_v98]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v103, main_v104, main_v105, main_cst_55, main_v106, main_v107, main_v108, main_v109, main_cst_56, main_v110, main_v111, main_v112, main_v113, main_cst_57, main_v114, main_v115, main_v116, main_v117, main_v118]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.Kernel.Gen

end
-- ==== Proof.KernelRun.Fold0.lean ====
/- The buffer contents of `Kernel` at each boundary between host stretches and pallas_calls, a fold from the launch memory, and what each item leaves unchanged. -/
module

public import proofs.«01_k».proof.Proof.KernelRun.Region0
public import proofs.«01_k».proof.Proof.KernelRun.Region1
public import proofs.«01_k».proof.Proof.KernelRun.Region2
public import proofs.«01_k».proof.Proof.KernelRun.Region3
public import proofs.«01_k».proof.Proof.KernelRun.Hosts0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6` (region 0's entry). -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- The same read at the TensorCore's references (what region 0's proof data take). -/
abbrev V7 : (c : Dev nD) → (b : Ref sig .tc) → Buf (Elt F) ((c : Thread nD τ).loc b) := fun c b => W7 m ρ c b
/-- At region 0's exit: its arrays at what the pipeline leaves (the inputs as entered, each output's write-backs
    folded: `Dat.arrAt … N`), every other buffer as entered (Lib/Pipeline/FrameSuffix.lean `withArrays`) (region 1's entry). -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- A reference that is none of region 0's OUTPUT arrays keeps its entry contents across it: an input window's
    array is never written back (`Dat.arrAt_in`, `A_eq0`); any other buffer is left as is. -/
theorem W8_of (c : Dev nD) (r : Ref sig .tc) (h : ∀ w : Fin cfg0.W, Pipeline.arrRef spec0 w = r → (cfg0.win w).isOut = false) :
    W8 m ρ c (Proc.devRef .tc r) = W7 m ρ c (Proc.devRef .tc r) := by
  by_cases hw : ∃ w : Fin cfg0.W, Pipeline.arrRef spec0 w = r
  · obtain ⟨w, rfl⟩ := hw
    exact (W8_arr m ρ c w).trans (((dat0 (V7 m ρ) c).arrAt_in w (h w rfl) _).trans (A_eq0 (V7 m ρ) c w))
  · exact W8_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn0 a ha)).trans (W7_args m ρ c a ha)
/-- The same read at the TensorCore's references (region 0's exit contents). -/
abbrev V8 : (c : Dev nD) → (b : Ref sig .tc) → Buf (Elt F) ((c : Thread nD τ).loc b) := fun c b => W8 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- A reference that is none of region 1's OUTPUT arrays keeps its entry contents across it: an input window's
    array is never written back (`Dat.arrAt_in`, `A_eq1`); any other buffer is left as is. -/
theorem W9_of (c : Dev nD) (r : Ref sig .tc) (h : ∀ w : Fin cfg1.W, Pipeline.arrRef spec1 w = r → (cfg1.win w).isOut = false) :
    W9 m ρ c (Proc.devRef .tc r) = W8 m ρ c (Proc.devRef .tc r) := by
  by_cases hw : ∃ w : Fin cfg1.W, Pipeline.arrRef spec1 w = r
  · obtain ⟨w, rfl⟩ := hw
    exact (W9_arr m ρ c w).trans (((dat1 (V8 m ρ) c).arrAt_in w (h w rfl) _).trans (A_eq1 (V8 m ρ) c w))
  · exact W9_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn1 a ha)).trans (W8_args m ρ c a ha)
/-- The same read at the TensorCore's references (region 1's exit contents). -/
abbrev V9 : (c : Dev nD) → (b : Ref sig .tc) → Buf (Elt F) ((c : Thread nD τ).loc b) := fun c b => W9 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- A reference that is none of region 2's OUTPUT arrays keeps its entry contents across it: an input window's
    array is never written back (`Dat.arrAt_in`, `A_eq2`); any other buffer is left as is. -/
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- A reference that is none of region 3's OUTPUT arrays keeps its entry contents across it: an input window's
    array is never written back (`Dat.arrAt_in`, `A_eq3`); any other buffer is left as is. -/
theorem W11_of (c : Dev nD) (r : Ref sig .tc) (h : ∀ w : Fin cfg3.W, Pipeline.arrRef spec3 w = r → (cfg3.win w).isOut = false) :
    W11 m ρ c (Proc.devRef .tc r) = W10 m ρ c (Proc.devRef .tc r) := by
  by_cases hw : ∃ w : Fin cfg3.W, Pipeline.arrRef spec3 w = r
  · obtain ⟨w, rfl⟩ := hw
    exact (W11_arr m ρ c w).trans (((dat3 (V10 m ρ) c).arrAt_in w (h w rfl) _).trans (A_eq3 (V10 m ρ) c w))
  · exact W11_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn3 a ha)).trans (W10_args m ρ c a ha)
/-- The same read at the TensorCore's references (region 3's exit contents). -/
abbrev V11 : (c : Dev nD) → (b : Ref sig .tc) → Buf (Elt F) ((c : Thread nD τ).loc b) := fun c b => W11 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After `hostOps4`. -/
abbrev W12 : Dev nD → Valuation τ sig (Elt F) := fun c => StableHlo.after hostOps4 (W11 m ρ c)
/-- A reference `hostOps4` does not write keeps its contents across it. -/
theorem W12_of (c : Dev nD) (r : Ref sig .tc) (h : r ∉ hostOps4_W) : W12 m ρ c (Proc.devRef .tc r) = W11 m ρ c (Proc.devRef .tc r) :=
  StableHlo.after_of_writes_sub hostOps4 _ hostOps4_writes h
theorem W12_args (c : Dev nD) : ∀ a ∈ argRefs, W12 m ρ c (Proc.devRef .tc a) = m ((c : Thread nD τ).loc a) :=
  fun a ha => (W12_of m ρ c a (hostOps4_args a ha)).trans (W11_args m ρ c a ha)

/-! ### The arguments end as launched: no host stretch writes one and no region may change one (a region reads it
    through an input window or bypasses it) -/

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)
theorem W12_main_arg3 (c : Dev nD) : W12 m ρ c (Proc.devRef .tc main_arg3) = m ((c : Thread nD τ).loc main_arg3) :=
  W12_args m ρ c main_arg3 (by decide)
theorem W12_main_arg4 (c : Dev nD) : W12 m ρ c (Proc.devRef .tc main_arg4) = m ((c : Thread nD τ).loc main_arg4) :=
  W12_args m ρ c main_arg4 (by decide)
theorem W12_main_arg5 (c : Dev nD) : W12 m ρ c (Proc.devRef .tc main_arg5) = m ((c : Thread nD τ).loc main_arg5) :=
  W12_args m ρ c main_arg5 (by decide)
end Cert.Kernel.Gen

end
-- ==== Proof.KernelRun.State.lean ====
/- The thread state of `Kernel` between its items, and the record of its whole program. -/
module

public import proofs.«01_k».proof.Proof.KernelRun.Fold0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V8 m ρ) c
  | ⟨2, _⟩ => fun c => dat2 (V9 m ρ) c
  | ⟨3, _⟩ => fun c => dat3 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W12`, the generator register at some state. -/
abbrev Tₙ (c : Dev nD) : sProp 𝕄 := iprop(StableHlo.held (c : Thread nD τ) (Pipeline.ucRefs τ sig) (W12 m ρ c) ∗ ∃ r, prngReg c r)

end Cert.Kernel.Gen

end
-- ==== Proof.KernelRun.Record0.lean ====
/- The pallas_call number 0 of `Kernel` as one item of the whole program, from the contents it is entered with. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) (A_eq0 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record1.lean ====
/- The pallas_call number 1 of `Kernel` as one item of the whole program, from the contents it is entered with. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) (A_eq1 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record2.lean ====
/- The pallas_call number 2 of `Kernel` as one item of the whole program, from the contents it is entered with. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record3.lean ====
/- The pallas_call number 3 of `Kernel` as one item of the whole program, from the contents it is entered with. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) (A_eq3 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Frame.lean ====
/- The frame theorem of `Kernel`: the whole program runs from any launch memory, leaves its six arguments as they were and every semaphore counter at zero. -/
module

public import proofs.«01_k».proof.Proof.KernelRun.Record0
public import proofs.«01_k».proof.Proof.KernelRun.Record1
public import proofs.«01_k».proof.Proof.KernelRun.Record2
public import proofs.«01_k».proof.Proof.KernelRun.Record3

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .region (reg1 m ρ),
    .region (reg2 m ρ),
    .region (reg3 m ρ),
    .host (hseg hostOps4 hostOps4_sub hostOps4_fresh (W11 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W12_<arg>`;
    the kit shows every counter at zero except the TensorCores' unscoped ones, of which there are none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨(fun c =>
      ⟨(h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (frame m ρ)

end Cert.Kernel.Gen

end
-- ==== Proof.KernelIdealRun.Region0.lean ====
/- The pallas_call number 0 of `KernelIdeal`, quant_x (quantise x, its transposed codes, its column maxima): the contents of its output windows point by point, and the triple of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x8000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- One staging buffer of output window 2, through which its contents are stated (`View.read_writes_of_cover`: the
    choice does not matter). -/
abbrev VO0_2 : View sig .tc .vmem S256x6656 .fp8e4m3 := (Memref.whole cc0_stg2_0 : Memref sig .tc .vmem S256x6656 .fp8e4m3).view
/-- One staging buffer of output window 3, through which its contents are stated (`View.read_writes_of_cover`: the
    choice does not matter). -/
abbrev VO0_3 : View sig .tc .vmem S6656x256 .fp8e4m3 := (Memref.whole cc0_stg3_0 : Memref sig .tc .vmem S6656x256 .fp8e4m3).view
/-- One staging buffer of output window 4, through which its contents are stated (`View.read_writes_of_cover`: the
    choice does not matter). -/
abbrev VO0_4 : View sig .tc .vmem S1x6656 .f32 := (Memref.whole cc0_stg4_0 : Memref sig .tc .vmem S1x6656 .f32).view
/-- Each window's current staging memref at point `t`, spelled as the pipeline passes it (`bodyAt0`), and its wholeness. -/
abbrev ms0_0 (t : Fin cfg0.N) : Memref sig .tc .smem S6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6656 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x6656 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6656x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6656 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) :
    Σ' (L2 : List (View.Piece (Elt F) S256x6656 .fp8e4m3)), Σ' (L3 : List (View.Piece (Elt F) S6656x256 .fp8e4m3)), { L4 : List (View.Piece (Elt F) S1x6656 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_quant_x i arg1 harg1 arg2 harg2 arg3 harg3 arg4 harg4 arg5 harg5) K } := by
  refine ⟨?_, ?_, ?_, fun E K => ?run⟩
  case run =>
    simp only [cc0_quant_x_eq_skeleton]; unfold cc0_quant_x_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case A's pieces for output 2 tile its block (1 store of `S256x6656`, checked by the kernel's evaluation: Lib/Ring.lean `Piece.tiledL`, linear in the pieces, through a loop's `@[irreducible]` trip theorem too), so they cover it. -/
theorem cover0_A_2 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) (y : S256x6656.Idx) :
    ∃ pc ∈ (kernelRun0_A c i arg1 harg1 arg2 harg2 arg3 harg3 arg4 harg4 arg5 harg5 hc0 hc1 x0 x1).1, y ∈ pc.1.set :=
  View.cover_of_tiledL (kernelRun0_A c i arg1 harg1 arg2 harg2 arg3 harg3 arg4 harg4 arg5 harg5 hc0 hc1 x0 x1).1 S256x6656.size (by sl_kernel_rfl) y

/-- What case A leaves in output 2's staging buffer: its pieces read back over junk. -/
def out0_A_2 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) : Vec F S256x6656 .fp8e4m3 :=
  VO0_2.read (Elt F) (VO0_2.writes (Elt F) VO0_2.junk (kernelRun0_A c i arg1 harg1 arg2 harg2 arg3 harg3 arg4 harg4 arg5 harg5 hc0 hc1 x0 x1).1)

/-- Case A's pieces for output 3 tile its block (1 store of `S6656x256`, checked by the kernel's evaluation: Lib/Ring.lean `Piece.tiledL`, linear in the pieces, through a loop's `@[irreducible]` trip theorem too), so they cover it. -/
theorem cover0_A_3 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) (y : S6656x256.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S6656x256.size (by sl_kernel_rfl) y

/-- What case A leaves in output 3's staging buffer: its pieces read back over junk. -/
def out0_A_3 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) : Vec F S6656x256 .fp8e4m3 :=
  VO0_3.read (Elt F) (VO0_3.writes (Elt F) VO0_3.junk (kernelRun0_A c i arg1 harg1 arg2 harg2 arg3 harg3 arg4 harg4 arg5 harg5 hc0 hc1 x0 x1).2.1)

/-- Case A's pieces for output 4 tile its block (1 store of `S1x6656`, checked by the kernel's evaluation: Lib/Ring.lean `Piece.tiledL`, linear in the pieces, through a loop's `@[irreducible]` trip theorem too), so they cover it. -/
theorem cover0_A_4 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) (y : S1x6656.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S1x6656.size (by sl_kernel_rfl) y

/-- What case A leaves in output 4's staging buffer: its pieces read back over junk. -/
def out0_A_4 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : cond0_0 i) (hc1 : ¬cond0_1 i)
    (x0 : Vec F S6 .f32) (x1 : Vec F S256x6656 .bf16) : Vec F S1x6656 .f32 :=
  VO0_4.read (Elt F) (VO0_4.writes (Elt F) VO0_4.junk (kernelRun0_A c i arg1 harg1 arg2 harg2 arg3 harg3 arg4 harg4 arg5 harg5 hc0 hc1 x0 x1).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 15: 15 of 16), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) :
    Σ' (L2 : List (View.Piece (Elt F) S256x6656 .fp8e4m3)), Σ' (L3 : List (View.Piece (Elt F) S6656x256 .fp8e4m3)), { L4 : List (View.Piece (Elt F) S1x6656 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_quant_x i arg1 harg1 arg2 harg2 arg3 harg3 arg4 harg4 arg5 harg5) K } := by
  refine ⟨?_, ?_, ?_, fun E K => ?run⟩
  case run =>
    simp only [cc0_quant_x_eq_skeleton]; unfold cc0_quant_x_skel
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case B's pieces for output 2 tile its block (1 store of `S256x6656`, checked by the kernel's evaluation: Lib/Ring.lean `Piece.tiledL`, linear in the pieces, through a loop's `@[irreducible]` trip theorem too), so they cover it. -/
theorem cover0_B_2 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) (y : S256x6656.Idx) :
    ∃ pc ∈ (kernelRun0_B c i arg1 harg1 arg2 harg2 arg3 harg3 arg4 harg4 arg5 harg5 hc0 hc1 x0 x1 xo4).1, y ∈ pc.1.set :=
  View.cover_of_tiledL (kernelRun0_B c i arg1 harg1 arg2 harg2 arg3 harg3 arg4 harg4 arg5 harg5 hc0 hc1 x0 x1 xo4).1 S256x6656.size (by sl_kernel_rfl) y

/-- What case B leaves in output 2's staging buffer: its pieces read back over junk. -/
def out0_B_2 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) : Vec F S256x6656 .fp8e4m3 :=
  VO0_2.read (Elt F) (VO0_2.writes (Elt F) VO0_2.junk (kernelRun0_B c i arg1 harg1 arg2 harg2 arg3 harg3 arg4 harg4 arg5 harg5 hc0 hc1 x0 x1 xo4).1)

/-- Case B's pieces for output 3 tile its block (1 store of `S6656x256`, checked by the kernel's evaluation: Lib/Ring.lean `Piece.tiledL`, linear in the pieces, through a loop's `@[irreducible]` trip theorem too), so they cover it. -/
theorem cover0_B_3 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) (y : S6656x256.Idx) :
    ∃ pc ∈ (kernelRun0_B c i arg1 harg1 arg2 harg2 arg3 harg3 arg4 harg4 arg5 harg5 hc0 hc1 x0 x1 xo4).2.1, y ∈ pc.1.set :=
  View.cover_of_tiledL (kernelRun0_B c i arg1 harg1 arg2 harg2 arg3 harg3 arg4 harg4 arg5 harg5 hc0 hc1 x0 x1 xo4).2.1 S6656x256.size (by sl_kernel_rfl) y

/-- What case B leaves in output 3's staging buffer: its pieces read back over junk. -/
def out0_B_3 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) : Vec F S6656x256 .fp8e4m3 :=
  VO0_3.read (Elt F) (VO0_3.writes (Elt F) VO0_3.junk (kernelRun0_B c i arg1 harg1 arg2 harg2 arg3 harg3 arg4 harg4 arg5 harg5 hc0 hc1 x0 x1 xo4).2.1)

/-- Case B's pieces for output 4 tile its block (1 store of `S1x6656`, checked by the kernel's evaluation: Lib/Ring.lean `Piece.tiledL`, linear in the pieces, through a loop's `@[irreducible]` trip theorem too), so they cover it. -/
theorem cover0_B_4 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) (y : S1x6656.Idx) :
    ∃ pc ∈ (kernelRun0_B c i arg1 harg1 arg2 harg2 arg3 harg3 arg4 harg4 arg5 harg5 hc0 hc1 x0 x1 xo4).2.2.1, y ∈ pc.1.set :=
  View.cover_of_tiledL (kernelRun0_B c i arg1 harg1 arg2 harg2 arg3 harg3 arg4 harg4 arg5 harg5 hc0 hc1 x0 x1 xo4).2.2.1 S1x6656.size (by sl_kernel_rfl) y

/-- What case B leaves in output 4's staging buffer: its pieces read back over junk. -/
def out0_B_4 (c : Dev nD) (i : grid0.Coords) (arg1 : Memref sig .tc .smem S6 .f32) (harg1 : arg1.IsWhole) (arg2 : Memref sig .tc .vmem S256x6656 .bf16) (harg2 : arg2.IsWhole) (arg3 : Memref sig .tc .vmem S256x6656 .fp8e4m3) (harg3 : arg3.IsWhole) (arg4 : Memref sig .tc .vmem S6656x256 .fp8e4m3) (harg4 : arg4.IsWhole) (arg5 : Memref sig .tc .vmem S1x6656 .f32) (harg5 : arg5.IsWhole) (hc0 : ¬cond0_0 i) (hc1 : cond0_1 i)
    (x0 : Vec F S6 .f32) (x1 : Vec F S256x6656 .bf16) (xo4 : Vec F S1x6656 .f32) : Vec F S1x6656 .f32 :=
  VO0_4.read (Elt F) (VO0_4.writes (Elt F) VO0_4.junk (kernelRun0_B c i arg1 harg1 arg2 harg2 arg3 harg3 arg4 harg4 arg5 harg5 hc0 hc1 x0 x1 xo4).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x6656 .fp8e4m3 × Vec F S6656x256 .fp8e4m3 × Vec F S1x6656 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  have hN : t.val < 16 := lt_of_lt_of_eq t.isLt (show cfg0.N = 16 from N_0)
  rw [after0_4, after0_4]
  by_cases h0 : t.val % 16 = 0
  · by_cases h1 : 1 ≤ t.val
    · exfalso; omega
    · rw [liveAt0_4_A t ((hcond0_0 t).mpr h0) (fun h => h1 ((hcond0_1 t).mp h))] at hi
      exact absurd hi Bool.false_ne_true
  · by_cases h1 : 1 ≤ t.val
    · rw [liveAt0_4_B t (fun h => h0 ((hcond0_0 t).mp h)) ((hcond0_1 t).mpr h1)] at hi
      exact absurd hi Bool.false_ne_true
    · exfalso; omega
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 16 = 0) (h1 : 1 ≤ t.val) (d) :
    (dat0 V c).before 4 t d = (outsAt0 V c (t.val - 1) (Nat.lt_of_le_of_lt (Nat.sub_le _ _) t.isLt)).2.2 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 16 := lt_of_lt_of_eq t.isLt (show cfg0.N = 16 from N_0)
  by_cases h0 : t.val % 16 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_A t ((hcond0_0 t).mpr h0) (fun h => h1 ((hcond0_1 t).mp h))], after0_4]
      rw [outsAt0_A V c t h0 h1]
      unfold out0_A_2 out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 Set.univ _)
      isplitl [H0]; · iexact H0
      isplitl [H1]; · iexact H1
      isplitl [H2]; · iexists _; iexact H2
      isplitl [H3]; · iexists _; iexact H3
      isplitl [H4]; · iexists _; iexact H4
      iintro ⟨H0, H1, ⟨%e2, H2⟩, ⟨%e3, H3⟩, ⟨%e4, H4⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_B t (fun h => h0 ((hcond0_0 t).mp h)) ((hcond0_1 t).mpr h1)], after0_4]
      rw [outsAt0_B V c t h0 h1]
      simp only [before0_4_B V c t h0 h1]
      unfold out0_B_2 out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [H4]; · iexact H4
      iintro ⟨H0, H1, ⟨%e2, H2⟩, ⟨%e3, H3⟩, ⟨%e4, H4⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealRun.Region1.lean ====
/- The pallas_call number 1 of `KernelIdeal`, fwd (quantise w, its column maxima, y = codes of x times codes of w): the contents of its output windows point by point, and the triple of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_fwd` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 64 = 0 :=
  (fun t => by
    have ht : t.val < 64 := Nat.lt_of_lt_of_eq t.isLt N_1
    have e0 : (grid1.coords t 0).val = t.val / 1 % 64 := Pipeline.Grid.coords_val t 0 (by decide) rfl
    simp only [cond1_0, k1_cond1, e0]
    word_cmp
   : ∀ t : Fin grid1.N, cond1_0 (grid1.coords t) ↔ t.val % 64 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 64 := Nat.lt_of_lt_of_eq t.isLt N_1
    have e0 : (grid1.coords t 0).val = t.val / 1 % 64 := Pipeline.Grid.coords_val t 0 (by decide) rfl
    simp only [cond1_1, k1_cond2, e0]
    word_cmp
   : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an output stored at every point, under no condition). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab1_5_step` checks it against the configuration's own
    step point by point and Lib/Pipeline/TableIdle.lean `Cfg.fresh_tab` makes it `Cfg.fresh` (`fresh1_5_eq`). -/
def freshTab1_5 : ℕ → Bool
  | 0 => true
  | n + 1 => (0x8000000000000000 : ℕ).testBit n
theorem freshTab1_5_step : ∀ t : Fin cfg1.N,
    freshTab1_5 (t.val + 1) = ((cfg1.win 5).flush t || (cfg1.idle 5 (cfg1.grid.coords t) && freshTab1_5 t.val)) := by decide +kernel
theorem fresh1_5_eq (t : Fin cfg1.N) : cfg1.fresh 5 t.val = freshTab1_5 t.val :=
  Pipeline.Cfg.fresh_tab cfg1 5 freshTab1_5 rfl freshTab1_5_step t.val (Nat.le_of_lt t.isLt)
/-- At the points of case A the printed configuration (`Cfg.idle`) calls output 5 live: the case stores into it. -/
theorem liveAt1_5_A : ∀ t : Fin cfg1.N, cond1_0 (grid1.coords t) → ¬cond1_1 (grid1.coords t) → cfg1.idle 5 (grid1.coords t) = false := by decide +kernel
/-- At the points of case B the printed configuration (`Cfg.idle`) calls output 5 live: the case stores into it. -/
theorem liveAt1_5_B : ∀ t : Fin cfg1.N, ¬cond1_0 (grid1.coords t) → cond1_1 (grid1.coords t) → cfg1.idle 5 (grid1.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab1_5`). -/
theorem notFresh1_5_B : ∀ t : Fin cfg1.N, ¬cond1_0 (grid1.coords t) → cond1_1 (grid1.coords t) → cfg1.fresh 5 t.val = false := by
  intro t; rw [fresh1_5_eq t]; revert t; decide +kernel

/-! ## The kernel body on any staging memrefs: a subtype the run finds -/

/-- One staging buffer of output window 3, through which its contents are stated (`View.read_writes_of_cover`: the
    choice does not matter). -/
abbrev VO1_3 : View sig .tc .vmem S4096x256 .bf16 := (Memref.whole cc1_stg3_0 : Memref sig .tc .vmem S4096x256 .bf16).view
/-- One staging buffer of output window 4, through which its contents are stated (`View.read_writes_of_cover`: the
    choice does not matter). -/
abbrev VO1_4 : View sig .tc .vmem S6656x256 .fp8e4m3 := (Memref.whole cc1_stg4_0 : Memref sig .tc .vmem S6656x256 .fp8e4m3).view
/-- One staging buffer of output window 5, through which its contents are stated (`View.read_writes_of_cover`: the
    choice does not matter). -/
abbrev VO1_5 : View sig .tc .vmem S1x256 .f32 := (Memref.whole cc1_stg5_0 : Memref sig .tc .vmem S1x256 .f32).view
/-- Each window's current staging memref at point `t`, spelled as the pipeline passes it (`bodyAt1`), and its wholeness. -/
abbrev ms1_0 (t : Fin cfg1.N) : Memref sig .tc .smem S6 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x6656 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S6656x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6656x256 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) :
    Σ' (L3 : List (View.Piece (Elt F) S4096x256 .bf16)), Σ' (L4 : List (View.Piece (Elt F) S6656x256 .fp8e4m3)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1_fwd i arg1 harg1 arg2 harg2 arg3 harg3 arg4 harg4 arg5 harg5 arg6 harg6) K } := by
  refine ⟨?_, ?_, ?_, fun E K => ?run⟩
  case run =>
    simp only [cc1_fwd_eq_skeleton]; unfold cc1_fwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- Case A's pieces for output 3 tile its block (8 stores of `S512x256`, checked by the kernel's evaluation: Lib/Ring.lean `Piece.tiledL`, linear in the pieces, through a loop's `@[irreducible]` trip theorem too), so they cover it. -/
theorem cover1_A_3 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) (y : S4096x256.Idx) :
    ∃ pc ∈ (kernelRun1_A c i arg1 harg1 arg2 harg2 arg3 harg3 arg4 harg4 arg5 harg5 arg6 harg6 hc0 hc1 x0 x1 x2).1, y ∈ pc.1.set :=
  View.cover_of_tiledL (kernelRun1_A c i arg1 harg1 arg2 harg2 arg3 harg3 arg4 harg4 arg5 harg5 arg6 harg6 hc0 hc1 x0 x1 x2).1 S512x256.size (by sl_kernel_rfl) y

/-- What case A leaves in output 3's staging buffer: its pieces read back over junk. -/
def out1_A_3 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) : Vec F S4096x256 .bf16 :=
  VO1_3.read (Elt F) (VO1_3.writes (Elt F) VO1_3.junk (kernelRun1_A c i arg1 harg1 arg2 harg2 arg3 harg3 arg4 harg4 arg5 harg5 arg6 harg6 hc0 hc1 x0 x1 x2).1)

/-- Case A's pieces for output 4 tile its block (26 stores of `S256x256`, checked by the kernel's evaluation: Lib/Ring.lean `Piece.tiledL`, linear in the pieces, through a loop's `@[irreducible]` trip theorem too), so they cover it. -/
theorem cover1_A_4 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) (y : S6656x256.Idx) :
    ∃ pc ∈ (kernelRun1_A c i arg1 harg1 arg2 harg2 arg3 harg3 arg4 harg4 arg5 harg5 arg6 harg6 hc0 hc1 x0 x1 x2).2.1, y ∈ pc.1.set :=
  View.cover_of_tiledL (kernelRun1_A c i arg1 harg1 arg2 harg2 arg3 harg3 arg4 harg4 arg5 harg5 arg6 harg6 hc0 hc1 x0 x1 x2).2.1 S256x256.size (by sl_kernel_rfl) y

/-- What case A leaves in output 4's staging buffer: its pieces read back over junk. -/
def out1_A_4 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) : Vec F S6656x256 .fp8e4m3 :=
  VO1_4.read (Elt F) (VO1_4.writes (Elt F) VO1_4.junk (kernelRun1_A c i arg1 harg1 arg2 harg2 arg3 harg3 arg4 harg4 arg5 harg5 arg6 harg6 hc0 hc1 x0 x1 x2).2.1)

/-- Case A's pieces for output 5 tile its block (1 store of `S1x256`, checked by the kernel's evaluation: Lib/Ring.lean `Piece.tiledL`, linear in the pieces, through a loop's `@[irreducible]` trip theorem too), so they cover it. -/
theorem cover1_A_5 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) (y : S1x256.Idx) :
    ∃ pc ∈ (kernelRun1_A c i arg1 harg1 arg2 harg2 arg3 harg3 arg4 harg4 arg5 harg5 arg6 harg6 hc0 hc1 x0 x1 x2).2.2.1, y ∈ pc.1.set :=
  View.cover_of_tiledL (kernelRun1_A c i arg1 harg1 arg2 harg2 arg3 harg3 arg4 harg4 arg5 harg5 arg6 harg6 hc0 hc1 x0 x1 x2).2.2.1 S1x256.size (by sl_kernel_rfl) y

/-- What case A leaves in output 5's staging buffer: its pieces read back over junk. -/
def out1_A_5 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : cond1_0 i) (hc1 : ¬cond1_1 i)
    (x0 : Vec F S6 .f32) (x1 : Vec F S4096x6656 .fp8e4m3) (x2 : Vec F S6656x256 .f32) : Vec F S1x256 .f32 :=
  VO1_5.read (Elt F) (VO1_5.writes (Elt F) VO1_5.junk (kernelRun1_A c i arg1 harg1 arg2 harg2 arg3 harg3 arg4 harg4 arg5 harg5 arg6 harg6 hc0 hc1 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 63 of 64), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) :
    Σ' (L3 : List (View.Piece (Elt F) S4096x256 .bf16)), Σ' (L4 : List (View.Piece (Elt F) S6656x256 .fp8e4m3)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1_fwd i arg1 harg1 arg2 harg2 arg3 harg3 arg4 harg4 arg5 harg5 arg6 harg6) K } := by
  refine ⟨?_, ?_, ?_, fun E K => ?run⟩
  case run =>
    simp only [cc1_fwd_eq_skeleton]; unfold cc1_fwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    obtain rfl := harg1.eq_unread hf0; obtain rfl := harg2.eq_unread hf1; obtain rfl := harg3.eq_unread hf2; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- Case B's pieces for output 3 tile its block (8 stores of `S512x256`, checked by the kernel's evaluation: Lib/Ring.lean `Piece.tiledL`, linear in the pieces, through a loop's `@[irreducible]` trip theorem too), so they cover it. -/
theorem cover1_B_3 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) (y : S4096x256.Idx) :
    ∃ pc ∈ (kernelRun1_B c i arg1 harg1 arg2 harg2 arg3 harg3 arg4 harg4 arg5 harg5 arg6 harg6 hc0 hc1 x0 x1 x2 xo5).1, y ∈ pc.1.set :=
  View.cover_of_tiledL (kernelRun1_B c i arg1 harg1 arg2 harg2 arg3 harg3 arg4 harg4 arg5 harg5 arg6 harg6 hc0 hc1 x0 x1 x2 xo5).1 S512x256.size (by sl_kernel_rfl) y

/-- What case B leaves in output 3's staging buffer: its pieces read back over junk. -/
def out1_B_3 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) : Vec F S4096x256 .bf16 :=
  VO1_3.read (Elt F) (VO1_3.writes (Elt F) VO1_3.junk (kernelRun1_B c i arg1 harg1 arg2 harg2 arg3 harg3 arg4 harg4 arg5 harg5 arg6 harg6 hc0 hc1 x0 x1 x2 xo5).1)

/-- Case B's pieces for output 4 tile its block (26 stores of `S256x256`, checked by the kernel's evaluation: Lib/Ring.lean `Piece.tiledL`, linear in the pieces, through a loop's `@[irreducible]` trip theorem too), so they cover it. -/
theorem cover1_B_4 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) (y : S6656x256.Idx) :
    ∃ pc ∈ (kernelRun1_B c i arg1 harg1 arg2 harg2 arg3 harg3 arg4 harg4 arg5 harg5 arg6 harg6 hc0 hc1 x0 x1 x2 xo5).2.1, y ∈ pc.1.set :=
  View.cover_of_tiledL (kernelRun1_B c i arg1 harg1 arg2 harg2 arg3 harg3 arg4 harg4 arg5 harg5 arg6 harg6 hc0 hc1 x0 x1 x2 xo5).2.1 S256x256.size (by sl_kernel_rfl) y

/-- What case B leaves in output 4's staging buffer: its pieces read back over junk. -/
def out1_B_4 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) : Vec F S6656x256 .fp8e4m3 :=
  VO1_4.read (Elt F) (VO1_4.writes (Elt F) VO1_4.junk (kernelRun1_B c i arg1 harg1 arg2 harg2 arg3 harg3 arg4 harg4 arg5 harg5 arg6 harg6 hc0 hc1 x0 x1 x2 xo5).2.1)

/-- Case B's pieces for output 5 tile its block (1 store of `S1x256`, checked by the kernel's evaluation: Lib/Ring.lean `Piece.tiledL`, linear in the pieces, through a loop's `@[irreducible]` trip theorem too), so they cover it. -/
theorem cover1_B_5 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) (y : S1x256.Idx) :
    ∃ pc ∈ (kernelRun1_B c i arg1 harg1 arg2 harg2 arg3 harg3 arg4 harg4 arg5 harg5 arg6 harg6 hc0 hc1 x0 x1 x2 xo5).2.2.1, y ∈ pc.1.set :=
  View.cover_of_tiledL (kernelRun1_B c i arg1 harg1 arg2 harg2 arg3 harg3 arg4 harg4 arg5 harg5 arg6 harg6 hc0 hc1 x0 x1 x2 xo5).2.2.1 S1x256.size (by sl_kernel_rfl) y

/-- What case B leaves in output 5's staging buffer: its pieces read back over junk. -/
def out1_B_5 (c : Dev nD) (i : grid1.Coords) (arg1 : Memref sig .tc .smem S6 .f32) (harg1 : arg1.IsWhole) (arg2 : Memref sig .tc .vmem S4096x6656 .fp8e4m3) (harg2 : arg2.IsWhole) (arg3 : Memref sig .tc .vmem S6656x256 .f32) (harg3 : arg3.IsWhole) (arg4 : Memref sig .tc .vmem S4096x256 .bf16) (harg4 : arg4.IsWhole) (arg5 : Memref sig .tc .vmem S6656x256 .fp8e4m3) (harg5 : arg5.IsWhole) (arg6 : Memref sig .tc .vmem S1x256 .f32) (harg6 : arg6.IsWhole) (hc0 : ¬cond1_0 i) (hc1 : cond1_1 i)
    (x0 : Vec F S6 .f32) (x1 : Vec F S4096x6656 .fp8e4m3) (x2 : Vec F S6656x256 .f32) (xo5 : Vec F S1x256 .f32) : Vec F S1x256 .f32 :=
  VO1_5.read (Elt F) (VO1_5.writes (Elt F) VO1_5.junk (kernelRun1_B c i arg1 harg1 arg2 harg2 arg3 harg3 arg4 harg4 arg5 harg5 arg6 harg6 hc0 hc1 x0 x1 x2 xo5).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S4096x256 .bf16 × Vec F S6656x256 .fp8e4m3 × Vec F S1x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 64 = 0 then
      if h1 : 1 ≤ (n + 1) then
        False.elim (by have hN : n + 1 < 64 := lt_of_lt_of_eq hn (show cfg1.N = 64 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : 1 ≤ (n + 1) then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        False.elim (by have hN : n + 1 < 64 := lt_of_lt_of_eq hn (show cfg1.N = 64 from N_1); omega)

/-- `outsAt1` at a point of case A: that case's contents. -/
theorem outsAt1_A (c : Dev nD) (t : Fin cfg1.N) (h0 : t.val % 64 = 0) (h1 : ¬1 ≤ t.val) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 64 = 0) (h1 : 1 ≤ t.val) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Output 5's contents CARRY through the points that leave it idle: at such a point, its buffer not fresh, the proof data's
    `after` is the point before's (the case there stores nothing into the window and its term says so; a case that stores
    into it is not idle there by `liveAt1_5_κ`) — the hypothesis of Lib/Pipeline/TableIdle.lean `Dat.before_out_traj`. -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 64 := lt_of_lt_of_eq t.isLt (show cfg1.N = 64 from N_1)
  rw [after1_5, after1_5]
  by_cases h0 : t.val % 64 = 0
  · by_cases h1 : 1 ≤ t.val
    · exfalso; omega
    · rw [liveAt1_5_A t ((hcond1_0 t).mpr h0) (fun h => h1 ((hcond1_1 t).mp h))] at hi
      exact absurd hi Bool.false_ne_true
  · by_cases h1 : 1 ≤ t.val
    · rw [liveAt1_5_B t (fun h => h0 ((hcond1_0 t).mp h)) ((hcond1_1 t).mpr h1)] at hi
      exact absurd hi Bool.false_ne_true
    · exfalso; omega
/-- At a point of case B output 5's current staging buffer holds what the point before left: the buffer is not fresh
    there (`notFresh1_5_B`: stored into since the region's entry or the last write-back, carried through the points that
    leave it idle by `hcarry1_5`; Lib/Pipeline/TableIdle.lean `Dat.before_out_traj`). -/
theorem before1_5_B (c : Dev nD) (t : Fin cfg1.N) (h0 : ¬t.val % 64 = 0) (h1 : 1 ≤ t.val) (d) :
    (dat1 V c).before 5 t d = (outsAt1 V c (t.val - 1) (Nat.lt_of_le_of_lt (Nat.sub_le _ _) t.isLt)).2.2 := by
  rw [Dat.before_out_traj _ 5 rfl (fun _ _ => rfl) (hcarry1_5 V c) t.val t rfl d,
    if_neg (by rw [notFresh1_5_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  have hN : t.val < 64 := lt_of_lt_of_eq t.isLt (show cfg1.N = 64 from N_1)
  by_cases h0 : t.val % 64 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h))], after1_5]
      rw [outsAt1_A V c t h0 h1]
      unfold out1_A_3 out1_A_4 out1_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _)
      isplitl [H4]
      · unfold owns; iexists _; isplitr
        swap; · iexact H4
        ipureintro; exact View.read_writes_of_cover _ _ _ _ _ (cover1_A_4 c _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
      rw [outsAt1_B V c t h0 h1]
      simp only [before1_5_B V c t h0 h1]
      unfold out1_B_3 out1_B_4 out1_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) ((hcond1_1 t).mpr h1) (iblk1 V c 0 t) (iblk1 V c 1 t) (iblk1 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [H5]; · iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _ _)
      isplitl [H4]
      · unfold owns; iexists _; isplitr
        swap; · iexact H4
        ipureintro; exact View.read_writes_of_cover _ _ _ _ _ (cover1_B_4 c _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdealRun.Region2.lean ====
/- The pallas_call number 2 of `KernelIdeal`, dw (quantise dy, its column maxima, dw = transposed codes of x times codes of dy): the contents of its output windows point by point, and the triple of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_dw` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the first point only — by arithmetic of the point. -/
theorem hcond2_0 : ∀ t : Fin cfg2.N, cond2_0 (grid2.coords t) ↔ t.val % 64 = 0 :=
  (fun t => by
    have ht : t.val < 64 := Nat.lt_of_lt_of_eq t.isLt N_2
    have e0 : (grid2.coords t 0).val = t.val / 1 % 64 := Pipeline.Grid.coords_val t 0 (by decide) rfl
    simp only [cond2_0, k2_cond1, e0]
    word_cmp
   : ∀ t : Fin grid2.N, cond2_0 (grid2.coords t) ↔ t.val % 64 = 0)

/-- The condition of the body's `scf.if` 1 (`k2_h2`), from the grid coordinates (the skeleton's scalar
    chain substituted). -/
abbrev cond2_1 (i : grid2.Coords) : Prop := k2_cond2 i = 1#1
/-- It holds at the points from point 1 on — by arithmetic of the point. -/
theorem hcond2_1 : ∀ t : Fin cfg2.N, cond2_1 (grid2.coords t) ↔ 1 ≤ t.val :=
  (fun t => by
    have ht : t.val < 64 := Nat.lt_of_lt_of_eq t.isLt N_2
    have e0 : (grid2.coords t 0).val = t.val / 1 % 64 := Pipeline.Grid.coords_val t 0 (by decide) rfl
    simp only [cond2_1, k2_cond2, e0]
    word_cmp
   : ∀ t : Fin grid2.N, cond2_1 (grid2.coords t) ↔ 1 ≤ t.val)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an output stored at every point, under no condition). -/
theorem liveAt2_3 : ∀ t : Fin cfg2.N, cfg2.idle 3 (grid2.coords t) = false := fun _ => rfl
/-- Window 4 is never idle (an output stored at every point, under no condition). -/
theorem liveAt2_4 : ∀ t : Fin cfg2.N, cfg2.idle 4 (grid2.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab2_5_step` checks it against the configuration's own
    step point by point and Lib/Pipeline/TableIdle.lean `Cfg.fresh_tab` makes it `Cfg.fresh` (`fresh2_5_eq`). -/
def freshTab2_5 : ℕ → Bool
  | 0 => true
  | n + 1 => (0x8000000000000000 : ℕ).testBit n
theorem freshTab2_5_step : ∀ t : Fin cfg2.N,
    freshTab2_5 (t.val + 1) = ((cfg2.win 5).flush t || (cfg2.idle 5 (cfg2.grid.coords t) && freshTab2_5 t.val)) := by decide +kernel
theorem fresh2_5_eq (t : Fin cfg2.N) : cfg2.fresh 5 t.val = freshTab2_5 t.val :=
  Pipeline.Cfg.fresh_tab cfg2 5 freshTab2_5 rfl freshTab2_5_step t.val (Nat.le_of_lt t.isLt)
/-- At the points of case A the printed configuration (`Cfg.idle`) calls output 5 live: the case stores into it. -/
theorem liveAt2_5_A : ∀ t : Fin cfg2.N, cond2_0 (grid2.coords t) → ¬cond2_1 (grid2.coords t) → cfg2.idle 5 (grid2.coords t) = false := by decide +kernel
/-- At the points of case B the printed configuration (`Cfg.idle`) calls output 5 live: the case stores into it. -/
theorem liveAt2_5_B : ∀ t : Fin cfg2.N, ¬cond2_0 (grid2.coords t) → cond2_1 (grid2.coords t) → cfg2.idle 5 (grid2.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab2_5`). -/
theorem notFresh2_5_B : ∀ t : Fin cfg2.N, ¬cond2_0 (grid2.coords t) → cond2_1 (grid2.coords t) → cfg2.fresh 5 t.val = false := by
  intro t; rw [fresh2_5_eq t]; revert t; decide +kernel

/-! ## The kernel body on any staging memrefs: a subtype the run finds -/

/-- One staging buffer of output window 3, through which its contents are stated (`View.read_writes_of_cover`: the
    choice does not matter). -/
abbrev VO2_3 : View sig .tc .vmem S6656x256 .f32 := (Memref.whole cc2_stg3_0 : Memref sig .tc .vmem S6656x256 .f32).view
/-- One staging buffer of output window 4, through which its contents are stated (`View.read_writes_of_cover`: the
    choice does not matter). -/
abbrev VO2_4 : View sig .tc .vmem S4096x256 .fp8e5m2 := (Memref.whole cc2_stg4_0 : Memref sig .tc .vmem S4096x256 .fp8e5m2).view
/-- One staging buffer of output window 5, through which its contents are stated (`View.read_writes_of_cover`: the
    choice does not matter). -/
abbrev VO2_5 : View sig .tc .vmem S1x256 .f32 := (Memref.whole cc2_stg5_0 : Memref sig .tc .vmem S1x256 .f32).view
/-- Each window's current staging memref at point `t`, spelled as the pipeline passes it (`bodyAt2`), and its wholeness. -/
abbrev ms2_0 (t : Fin cfg2.N) : Memref sig .tc .smem S6 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6656x4096 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S6656x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x256 .fp8e5m2 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) :
    Σ' (L3 : List (View.Piece (Elt F) S6656x256 .f32)), Σ' (L4 : List (View.Piece (Elt F) S4096x256 .fp8e5m2)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc2_dw i arg1 harg1 arg2 harg2 arg3 harg3 arg4 harg4 arg5 harg5 arg6 harg6) K } := by
  refine ⟨?_, ?_, ?_, fun E K => ?run⟩
  case run =>
    simp only [cc2_dw_eq_skeleton]; unfold cc2_dw_skel
    simp only [k2_part10_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- Case A's pieces for output 3 tile its block (13 stores of `S512x256`, checked by the kernel's evaluation: Lib/Ring.lean `Piece.tiledL`, linear in the pieces, through a loop's `@[irreducible]` trip theorem too), so they cover it. -/
theorem cover2_A_3 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) (y : S6656x256.Idx) :
    ∃ pc ∈ (kernelRun2_A c i arg1 harg1 arg2 harg2 arg3 harg3 arg4 harg4 arg5 harg5 arg6 harg6 hc0 hc1 x0 x1 x2).1, y ∈ pc.1.set :=
  View.cover_of_tiledL (kernelRun2_A c i arg1 harg1 arg2 harg2 arg3 harg3 arg4 harg4 arg5 harg5 arg6 harg6 hc0 hc1 x0 x1 x2).1 S512x256.size (by sl_kernel_rfl) y

/-- What case A leaves in output 3's staging buffer: its pieces read back over junk. -/
def out2_A_3 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) : Vec F S6656x256 .f32 :=
  VO2_3.read (Elt F) (VO2_3.writes (Elt F) VO2_3.junk (kernelRun2_A c i arg1 harg1 arg2 harg2 arg3 harg3 arg4 harg4 arg5 harg5 arg6 harg6 hc0 hc1 x0 x1 x2).1)

/-- Case A's pieces for output 4 tile its block (16 stores of `S256x256`, checked by the kernel's evaluation: Lib/Ring.lean `Piece.tiledL`, linear in the pieces, through a loop's `@[irreducible]` trip theorem too), so they cover it. -/
theorem cover2_A_4 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) (y : S4096x256.Idx) :
    ∃ pc ∈ (kernelRun2_A c i arg1 harg1 arg2 harg2 arg3 harg3 arg4 harg4 arg5 harg5 arg6 harg6 hc0 hc1 x0 x1 x2).2.1, y ∈ pc.1.set :=
  View.cover_of_tiledL (kernelRun2_A c i arg1 harg1 arg2 harg2 arg3 harg3 arg4 harg4 arg5 harg5 arg6 harg6 hc0 hc1 x0 x1 x2).2.1 S256x256.size (by sl_kernel_rfl) y

/-- What case A leaves in output 4's staging buffer: its pieces read back over junk. -/
def out2_A_4 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) : Vec F S4096x256 .fp8e5m2 :=
  VO2_4.read (Elt F) (VO2_4.writes (Elt F) VO2_4.junk (kernelRun2_A c i arg1 harg1 arg2 harg2 arg3 harg3 arg4 harg4 arg5 harg5 arg6 harg6 hc0 hc1 x0 x1 x2).2.1)

/-- Case A's pieces for output 5 tile its block (1 store of `S1x256`, checked by the kernel's evaluation: Lib/Ring.lean `Piece.tiledL`, linear in the pieces, through a loop's `@[irreducible]` trip theorem too), so they cover it. -/
theorem cover2_A_5 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) (y : S1x256.Idx) :
    ∃ pc ∈ (kernelRun2_A c i arg1 harg1 arg2 harg2 arg3 harg3 arg4 harg4 arg5 harg5 arg6 harg6 hc0 hc1 x0 x1 x2).2.2.1, y ∈ pc.1.set :=
  View.cover_of_tiledL (kernelRun2_A c i arg1 harg1 arg2 harg2 arg3 harg3 arg4 harg4 arg5 harg5 arg6 harg6 hc0 hc1 x0 x1 x2).2.2.1 S1x256.size (by sl_kernel_rfl) y

/-- What case A leaves in output 5's staging buffer: its pieces read back over junk. -/
def out2_A_5 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : cond2_0 i) (hc1 : ¬cond2_1 i)
    (x0 : Vec F S6 .f32) (x1 : Vec F S6656x4096 .fp8e4m3) (x2 : Vec F S4096x256 .bf16) : Vec F S1x256 .f32 :=
  VO2_5.read (Elt F) (VO2_5.writes (Elt F) VO2_5.junk (kernelRun2_A c i arg1 harg1 arg2 harg2 arg3 harg3 arg4 harg4 arg5 harg5 arg6 harg6 hc0 hc1 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 63 of 64), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) :
    Σ' (L3 : List (View.Piece (Elt F) S6656x256 .f32)), Σ' (L4 : List (View.Piece (Elt F) S4096x256 .fp8e5m2)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc2_dw i arg1 harg1 arg2 harg2 arg3 harg3 arg4 harg4 arg5 harg5 arg6 harg6) K } := by
  refine ⟨?_, ?_, ?_, fun E K => ?run⟩
  case run =>
    simp only [cc2_dw_eq_skeleton]; unfold cc2_dw_skel
    simp only [k2_part10_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    obtain rfl := harg1.eq_unread hf0; obtain rfl := harg2.eq_unread hf1; obtain rfl := harg3.eq_unread hf2; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- Case B's pieces for output 3 tile its block (13 stores of `S512x256`, checked by the kernel's evaluation: Lib/Ring.lean `Piece.tiledL`, linear in the pieces, through a loop's `@[irreducible]` trip theorem too), so they cover it. -/
theorem cover2_B_3 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) (y : S6656x256.Idx) :
    ∃ pc ∈ (kernelRun2_B c i arg1 harg1 arg2 harg2 arg3 harg3 arg4 harg4 arg5 harg5 arg6 harg6 hc0 hc1 x0 x1 x2 xo5).1, y ∈ pc.1.set :=
  View.cover_of_tiledL (kernelRun2_B c i arg1 harg1 arg2 harg2 arg3 harg3 arg4 harg4 arg5 harg5 arg6 harg6 hc0 hc1 x0 x1 x2 xo5).1 S512x256.size (by sl_kernel_rfl) y

/-- What case B leaves in output 3's staging buffer: its pieces read back over junk. -/
def out2_B_3 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) : Vec F S6656x256 .f32 :=
  VO2_3.read (Elt F) (VO2_3.writes (Elt F) VO2_3.junk (kernelRun2_B c i arg1 harg1 arg2 harg2 arg3 harg3 arg4 harg4 arg5 harg5 arg6 harg6 hc0 hc1 x0 x1 x2 xo5).1)

/-- Case B's pieces for output 4 tile its block (16 stores of `S256x256`, checked by the kernel's evaluation: Lib/Ring.lean `Piece.tiledL`, linear in the pieces, through a loop's `@[irreducible]` trip theorem too), so they cover it. -/
theorem cover2_B_4 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) (y : S4096x256.Idx) :
    ∃ pc ∈ (kernelRun2_B c i arg1 harg1 arg2 harg2 arg3 harg3 arg4 harg4 arg5 harg5 arg6 harg6 hc0 hc1 x0 x1 x2 xo5).2.1, y ∈ pc.1.set :=
  View.cover_of_tiledL (kernelRun2_B c i arg1 harg1 arg2 harg2 arg3 harg3 arg4 harg4 arg5 harg5 arg6 harg6 hc0 hc1 x0 x1 x2 xo5).2.1 S256x256.size (by sl_kernel_rfl) y

/-- What case B leaves in output 4's staging buffer: its pieces read back over junk. -/
def out2_B_4 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) : Vec F S4096x256 .fp8e5m2 :=
  VO2_4.read (Elt F) (VO2_4.writes (Elt F) VO2_4.junk (kernelRun2_B c i arg1 harg1 arg2 harg2 arg3 harg3 arg4 harg4 arg5 harg5 arg6 harg6 hc0 hc1 x0 x1 x2 xo5).2.1)

/-- Case B's pieces for output 5 tile its block (1 store of `S1x256`, checked by the kernel's evaluation: Lib/Ring.lean `Piece.tiledL`, linear in the pieces, through a loop's `@[irreducible]` trip theorem too), so they cover it. -/
theorem cover2_B_5 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) (y : S1x256.Idx) :
    ∃ pc ∈ (kernelRun2_B c i arg1 harg1 arg2 harg2 arg3 harg3 arg4 harg4 arg5 harg5 arg6 harg6 hc0 hc1 x0 x1 x2 xo5).2.2.1, y ∈ pc.1.set :=
  View.cover_of_tiledL (kernelRun2_B c i arg1 harg1 arg2 harg2 arg3 harg3 arg4 harg4 arg5 harg5 arg6 harg6 hc0 hc1 x0 x1 x2 xo5).2.2.1 S1x256.size (by sl_kernel_rfl) y

/-- What case B leaves in output 5's staging buffer: its pieces read back over junk. -/
def out2_B_5 (c : Dev nD) (i : grid2.Coords) (arg1 : Memref sig .tc .smem S6 .f32) (harg1 : arg1.IsWhole) (arg2 : Memref sig .tc .vmem S6656x4096 .fp8e4m3) (harg2 : arg2.IsWhole) (arg3 : Memref sig .tc .vmem S4096x256 .bf16) (harg3 : arg3.IsWhole) (arg4 : Memref sig .tc .vmem S6656x256 .f32) (harg4 : arg4.IsWhole) (arg5 : Memref sig .tc .vmem S4096x256 .fp8e5m2) (harg5 : arg5.IsWhole) (arg6 : Memref sig .tc .vmem S1x256 .f32) (harg6 : arg6.IsWhole) (hc0 : ¬cond2_0 i) (hc1 : cond2_1 i)
    (x0 : Vec F S6 .f32) (x1 : Vec F S6656x4096 .fp8e4m3) (x2 : Vec F S4096x256 .bf16) (xo5 : Vec F S1x256 .f32) : Vec F S1x256 .f32 :=
  VO2_5.read (Elt F) (VO2_5.writes (Elt F) VO2_5.junk (kernelRun2_B c i arg1 harg1 arg2 harg2 arg3 harg3 arg4 harg4 arg5 harg5 arg6 harg6 hc0 hc1 x0 x1 x2 xo5).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S6656x256 .f32 × Vec F S4096x256 .fp8e5m2 × Vec F S1x256 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 64 = 0 then
      if h1 : 1 ≤ (n + 1) then
        False.elim (by have hN : n + 1 < 64 := lt_of_lt_of_eq hn (show cfg2.N = 64 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : 1 ≤ (n + 1) then
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else
        False.elim (by have hN : n + 1 < 64 := lt_of_lt_of_eq hn (show cfg2.N = 64 from N_2); omega)

/-- `outsAt2` at a point of case A: that case's contents. -/
theorem outsAt2_A (c : Dev nD) (t : Fin cfg2.N) (h0 : t.val % 64 = 0) (h1 : ¬1 ≤ t.val) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 64 = 0) (h1 : 1 ≤ t.val) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Output 5's contents CARRY through the points that leave it idle: at such a point, its buffer not fresh, the proof data's
    `after` is the point before's (the case there stores nothing into the window and its term says so; a case that stores
    into it is not idle there by `liveAt2_5_κ`) — the hypothesis of Lib/Pipeline/TableIdle.lean `Dat.before_out_traj`. -/
theorem hcarry2_5 (c : Dev nD) : ∀ (t : Fin cfg2.N) (_ : t.val ≠ 0), cfg2.idle 5 (grid2.coords t) = true → cfg2.fresh 5 t.val = false →
    (dat2 V c).after 5 t = (dat2 V c).after 5 ⟨t.val - 1, by omega⟩ := by
  intro t _ hi _
  have hN : t.val < 64 := lt_of_lt_of_eq t.isLt (show cfg2.N = 64 from N_2)
  rw [after2_5, after2_5]
  by_cases h0 : t.val % 64 = 0
  · by_cases h1 : 1 ≤ t.val
    · exfalso; omega
    · rw [liveAt2_5_A t ((hcond2_0 t).mpr h0) (fun h => h1 ((hcond2_1 t).mp h))] at hi
      exact absurd hi Bool.false_ne_true
  · by_cases h1 : 1 ≤ t.val
    · rw [liveAt2_5_B t (fun h => h0 ((hcond2_0 t).mp h)) ((hcond2_1 t).mpr h1)] at hi
      exact absurd hi Bool.false_ne_true
    · exfalso; omega
/-- At a point of case B output 5's current staging buffer holds what the point before left: the buffer is not fresh
    there (`notFresh2_5_B`: stored into since the region's entry or the last write-back, carried through the points that
    leave it idle by `hcarry2_5`; Lib/Pipeline/TableIdle.lean `Dat.before_out_traj`). -/
theorem before2_5_B (c : Dev nD) (t : Fin cfg2.N) (h0 : ¬t.val % 64 = 0) (h1 : 1 ≤ t.val) (d) :
    (dat2 V c).before 5 t d = (outsAt2 V c (t.val - 1) (Nat.lt_of_le_of_lt (Nat.sub_le _ _) t.isLt)).2.2 := by
  rw [Dat.before_out_traj _ 5 rfl (fun _ _ => rfl) (hcarry2_5 V c) t.val t rfl d,
    if_neg (by rw [notFresh2_5_B t (fun h => h0 ((hcond2_0 t).mp h)) ((hcond2_1 t).mpr h1)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 800000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl]
  have hN : t.val < 64 := lt_of_lt_of_eq t.isLt (show cfg2.N = 64 from N_2)
  by_cases h0 : t.val % 64 = 0
  · by_cases h1 : 1 ≤ t.val
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5_A t ((hcond2_0 t).mpr h0) (fun h => h1 ((hcond2_1 t).mp h))], after2_5]
      rw [outsAt2_A V c t h0 h1]
      unfold out2_A_3 out2_A_4 out2_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_A_3 c _ _ _ _ _ _ _ _ _ _ _ _ _ _ _ _ _ _)
      isplitl [H4]
      · unfold owns; iexists _; isplitr
        swap; · iexact H4
        ipureintro; exact View.read_writes_of_cover _ _ _ _ _ (cover2_A_4 c _ _ _ _ _ _ _ _ _ _ _ _ _ _ _ _ _ _)
      unfold owns; iexists _; isplitr
      swap; · iexact H5
      ipureintro; exact View.read_writes_of_cover _ _ _ _ _ (cover2_A_5 c _ _ _ _ _ _ _ _ _ _ _ _ _ _ _ _ _ _)
  · by_cases h1 : 1 ≤ t.val
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5_B t (fun h => h0 ((hcond2_0 t).mp h)) ((hcond2_1 t).mpr h1)], after2_5]
      rw [outsAt2_B V c t h0 h1]
      simp only [before2_5_B V c t h0 h1]
      unfold out2_B_3 out2_B_4 out2_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ (fun h => h0 ((hcond2_0 t).mp h)) ((hcond2_1 t).mpr h1) (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [H5]; · iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_B_3 c _ _ _ _ _ _ _ _ _ _ _ _ _ _ _ _ _ _ _)
      isplitl [H4]
      · unfold owns; iexists _; isplitr
        swap; · iexact H4
        ipureintro; exact View.read_writes_of_cover _ _ _ _ _ (cover2_B_4 c _ _ _ _ _ _ _ _ _ _ _ _ _ _ _ _ _ _ _)
      unfold owns; iexists _; isplitr
      swap; · iexact H5
      ipureintro; exact View.read_writes_of_cover _ _ _ _ _ (cover2_B_5 c _ _ _ _ _ _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdealRun.Region3.lean ====
/- The pallas_call number 3 of `KernelIdeal`, dx (dx = codes of dy times transposed codes of w): the contents of its output windows point by point, and the triple of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_dx` (pipeline 3), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 3, through which its contents are stated (`View.read_writes_of_cover`: the
    choice does not matter). -/
abbrev VO3_3 : View sig .tc .vmem S1024x512 .bf16 := (Memref.whole cc3_stg3_0 : Memref sig .tc .vmem S1024x512 .bf16).view
/-- Each window's current staging memref at point `t`, spelled as the pipeline passes it (`bodyAt3`), and its wholeness. -/
abbrev ms3_0 (t : Fin cfg3.N) : Memref sig .tc .smem S6 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x16384 .fp8e5m2 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x16384 .fp8e4m3 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .bf16 := win3_3.stage (cfg3.slots t 3)
abbrev hs3_3 (t : Fin cfg3.N) : (ms3_3 t).IsWhole := hstage3_3 ((cfg3.slots t 3).cast nbuf3_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg2 : Memref sig .tc .smem S6 .f32) (harg2 : arg2.IsWhole) (arg3 : Memref sig .tc .vmem S1024x16384 .fp8e5m2) (harg3 : arg3.IsWhole) (arg4 : Memref sig .tc .vmem S512x16384 .fp8e4m3) (harg4 : arg4.IsWhole) (arg5 : Memref sig .tc .vmem S1024x512 .bf16) (harg5 : arg5.IsWhole)
    (x0 : Vec F S6 .f32) (x1 : Vec F S1024x16384 .fp8e5m2) (x2 : Vec F S512x16384 .fp8e4m3) :
    { L3 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc3_dx i arg2 harg2 arg3 harg3 arg4 harg4 arg5 harg5) K } := by
  refine ⟨?_, fun E K => ?run⟩
  case run =>
    simp only [cc3_dx_eq_skeleton]; unfold cc3_dx_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for output 3 tile its block (2 stores of `S512x512`, checked by the kernel's evaluation: Lib/Ring.lean `Piece.tiledL`, linear in the pieces, through a loop's `@[irreducible]` trip theorem too), so they cover it. -/
theorem cover3_A_3 (c : Dev nD) (i : grid3.Coords) (arg2 : Memref sig .tc .smem S6 .f32) (harg2 : arg2.IsWhole) (arg3 : Memref sig .tc .vmem S1024x16384 .fp8e5m2) (harg3 : arg3.IsWhole) (arg4 : Memref sig .tc .vmem S512x16384 .fp8e4m3) (harg4 : arg4.IsWhole) (arg5 : Memref sig .tc .vmem S1024x512 .bf16) (harg5 : arg5.IsWhole)
    (x0 : Vec F S6 .f32) (x1 : Vec F S1024x16384 .fp8e5m2) (x2 : Vec F S512x16384 .fp8e4m3) (y : S1024x512.Idx) :
    ∃ pc ∈ (kernelRun3_A c i arg2 harg2 arg3 harg3 arg4 harg4 arg5 harg5 x0 x1 x2).1, y ∈ pc.1.set :=
  View.cover_of_tiledL (kernelRun3_A c i arg2 harg2 arg3 harg3 arg4 harg4 arg5 harg5 x0 x1 x2).1 S512x512.size (by sl_kernel_rfl) y

/-- What the run leaves in output 3's staging buffer: its pieces read back over junk. -/
def out3_A_3 (c : Dev nD) (i : grid3.Coords) (arg2 : Memref sig .tc .smem S6 .f32) (harg2 : arg2.IsWhole) (arg3 : Memref sig .tc .vmem S1024x16384 .fp8e5m2) (harg3 : arg3.IsWhole) (arg4 : Memref sig .tc .vmem S512x16384 .fp8e4m3) (harg4 : arg4.IsWhole) (arg5 : Memref sig .tc .vmem S1024x512 .bf16) (harg5 : arg5.IsWhole)
    (x0 : Vec F S6 .f32) (x1 : Vec F S1024x16384 .fp8e5m2) (x2 : Vec F S512x16384 .fp8e4m3) : Vec F S1024x512 .bf16 :=
  VO3_3.read (Elt F) (VO3_3.writes (Elt F) VO3_3.junk (kernelRun3_A c i arg2 harg2 arg3 harg3 arg4 harg4 arg5 harg5 x0 x1 x2).1)

/-! ## What the outputs hold after each point -/

/-- What the outputs' staging buffers hold after the body at point `t`: the run's contents at
    the point's memrefs and input blocks. -/
def outsAt3 (c : Dev nD) (t : Fin cfg3.N) : Vec F S1024x512 .bf16 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.KernelIdealRun.Hosts0.lean ====
/- The host stretches of `KernelIdeal`: what each writes and what it leaves as it was. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_cst_0, main_v3, main_v4, main_c, main_v5, main_v6, main_c_1, main_v7, main_v8, main_v9, main_v10, main_v11, main_v12, main_v13, main_c_2, main_v14, main_c_3, main_v15, main_c_4, main_v16, main_v17, main_c_5, main_v18, main_c_6, main_v19, main_cst_7, main_v20, main_c_8]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v21]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_c_9, main_v22, main_c_10, main_c_11, main_v23, main_c_12, main_v24, main_v25, main_v26, main_c_13, main_v27, main_c_14, main_c_15, main_v28, main_c_16, main_v29, main_v30, main_cst_17, main_v31, main_cst_18, main_v32, main_v33, main_c_19, main_v34, main_v35, main_c_20, main_v36, main_v37, main_v38, main_v39, main_v40, main_v41, main_v42, main_c_21, main_v43, main_c_22, main_v44, main_c_23, main_v45, main_v46, main_c_24, main_v47, main_c_25, main_v48, main_cst_26, main_v49, main_c_27]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_v50]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_c_28, main_v51, main_c_29, main_c_30, main_v52, main_c_31, main_v53, main_v54, main_v55, main_c_32, main_v56, main_c_33, main_c_34, main_v57, main_c_35, main_v58, main_v59, main_cst_36, main_v60, main_cst_37, main_v61, main_v62, main_c_38, main_v63, main_v64, main_c_39, main_v65, main_v66, main_v67, main_v68, main_v69, main_v70, main_v71, main_c_40, main_v72, main_c_41, main_v73, main_c_42, main_v74, main_v75, main_c_43, main_v76, main_c_44, main_v77, main_cst_45, main_v78, main_c_46]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_v79]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_c_47, main_v80, main_c_48, main_c_49, main_v81, main_c_50, main_v82, main_v83, main_v84, main_c_51, main_v85, main_c_52, main_c_53, main_v86, main_c_54, main_v87, main_v88, main_v89, main_v90, main_v91, main_v92, main_v93, main_v94, main_v95, main_v96, main_v97, main_v98]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v103, main_v104, main_v105, main_cst_55, main_v106, main_v107, main_v108, main_v109, main_cst_56, main_v110, main_v111, main_v112, main_v113, main_cst_57, main_v114, main_v115, main_v116, main_v117, main_v118]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.KernelIdeal.Gen

end
-- ==== Proof.KernelIdealRun.Fold0.lean ====
/- The buffer contents of `KernelIdeal` at each boundary between host stretches and pallas_calls, a fold from the launch memory, and what each item leaves unchanged. -/
module

public import proofs.«01_k».proof.Proof.KernelIdealRun.Region0
public import proofs.«01_k».proof.Proof.KernelIdealRun.Region1
public import proofs.«01_k».proof.Proof.KernelIdealRun.Region2
public import proofs.«01_k».proof.Proof.KernelIdealRun.Region3
public import proofs.«01_k».proof.Proof.KernelIdealRun.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6` (region 0's entry). -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- The same read at the TensorCore's references (what region 0's proof data take). -/
abbrev V7 : (c : Dev nD) → (b : Ref sig .tc) → Buf (Elt F) ((c : Thread nD τ).loc b) := fun c b => W7 m ρ c b
/-- At region 0's exit: its arrays at what the pipeline leaves (the inputs as entered, each output's write-backs
    folded: `Dat.arrAt … N`), every other buffer as entered (Lib/Pipeline/FrameSuffix.lean `withArrays`) (region 1's entry). -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- A reference that is none of region 0's OUTPUT arrays keeps its entry contents across it: an input window's
    array is never written back (`Dat.arrAt_in`, `A_eq0`); any other buffer is left as is. -/
theorem W8_of (c : Dev nD) (r : Ref sig .tc) (h : ∀ w : Fin cfg0.W, Pipeline.arrRef spec0 w = r → (cfg0.win w).isOut = false) :
    W8 m ρ c (Proc.devRef .tc r) = W7 m ρ c (Proc.devRef .tc r) := by
  by_cases hw : ∃ w : Fin cfg0.W, Pipeline.arrRef spec0 w = r
  · obtain ⟨w, rfl⟩ := hw
    exact (W8_arr m ρ c w).trans (((dat0 (V7 m ρ) c).arrAt_in w (h w rfl) _).trans (A_eq0 (V7 m ρ) c w))
  · exact W8_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn0 a ha)).trans (W7_args m ρ c a ha)
/-- The same read at the TensorCore's references (region 0's exit contents). -/
abbrev V8 : (c : Dev nD) → (b : Ref sig .tc) → Buf (Elt F) ((c : Thread nD τ).loc b) := fun c b => W8 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- A reference that is none of region 1's OUTPUT arrays keeps its entry contents across it: an input window's
    array is never written back (`Dat.arrAt_in`, `A_eq1`); any other buffer is left as is. -/
theorem W9_of (c : Dev nD) (r : Ref sig .tc) (h : ∀ w : Fin cfg1.W, Pipeline.arrRef spec1 w = r → (cfg1.win w).isOut = false) :
    W9 m ρ c (Proc.devRef .tc r) = W8 m ρ c (Proc.devRef .tc r) := by
  by_cases hw : ∃ w : Fin cfg1.W, Pipeline.arrRef spec1 w = r
  · obtain ⟨w, rfl⟩ := hw
    exact (W9_arr m ρ c w).trans (((dat1 (V8 m ρ) c).arrAt_in w (h w rfl) _).trans (A_eq1 (V8 m ρ) c w))
  · exact W9_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn1 a ha)).trans (W8_args m ρ c a ha)
/-- The same read at the TensorCore's references (region 1's exit contents). -/
abbrev V9 : (c : Dev nD) → (b : Ref sig .tc) → Buf (Elt F) ((c : Thread nD τ).loc b) := fun c b => W9 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- A reference that is none of region 2's OUTPUT arrays keeps its entry contents across it: an input window's
    array is never written back (`Dat.arrAt_in`, `A_eq2`); any other buffer is left as is. -/
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- A reference that is none of region 3's OUTPUT arrays keeps its entry contents across it: an input window's
    array is never written back (`Dat.arrAt_in`, `A_eq3`); any other buffer is left as is. -/
theorem W11_of (c : Dev nD) (r : Ref sig .tc) (h : ∀ w : Fin cfg3.W, Pipeline.arrRef spec3 w = r → (cfg3.win w).isOut = false) :
    W11 m ρ c (Proc.devRef .tc r) = W10 m ρ c (Proc.devRef .tc r) := by
  by_cases hw : ∃ w : Fin cfg3.W, Pipeline.arrRef spec3 w = r
  · obtain ⟨w, rfl⟩ := hw
    exact (W11_arr m ρ c w).trans (((dat3 (V10 m ρ) c).arrAt_in w (h w rfl) _).trans (A_eq3 (V10 m ρ) c w))
  · exact W11_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn3 a ha)).trans (W10_args m ρ c a ha)
/-- The same read at the TensorCore's references (region 3's exit contents). -/
abbrev V11 : (c : Dev nD) → (b : Ref sig .tc) → Buf (Elt F) ((c : Thread nD τ).loc b) := fun c b => W11 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After `hostOps4`. -/
abbrev W12 : Dev nD → Valuation τ sig (Elt F) := fun c => StableHlo.after hostOps4 (W11 m ρ c)
/-- A reference `hostOps4` does not write keeps its contents across it. -/
theorem W12_of (c : Dev nD) (r : Ref sig .tc) (h : r ∉ hostOps4_W) : W12 m ρ c (Proc.devRef .tc r) = W11 m ρ c (Proc.devRef .tc r) :=
  StableHlo.after_of_writes_sub hostOps4 _ hostOps4_writes h
theorem W12_args (c : Dev nD) : ∀ a ∈ argRefs, W12 m ρ c (Proc.devRef .tc a) = m ((c : Thread nD τ).loc a) :=
  fun a ha => (W12_of m ρ c a (hostOps4_args a ha)).trans (W11_args m ρ c a ha)

/-! ### The arguments end as launched: no host stretch writes one and no region may change one (a region reads it
    through an input window or bypasses it) -/

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)
theorem W12_main_arg3 (c : Dev nD) : W12 m ρ c (Proc.devRef .tc main_arg3) = m ((c : Thread nD τ).loc main_arg3) :=
  W12_args m ρ c main_arg3 (by decide)
theorem W12_main_arg4 (c : Dev nD) : W12 m ρ c (Proc.devRef .tc main_arg4) = m ((c : Thread nD τ).loc main_arg4) :=
  W12_args m ρ c main_arg4 (by decide)
theorem W12_main_arg5 (c : Dev nD) : W12 m ρ c (Proc.devRef .tc main_arg5) = m ((c : Thread nD τ).loc main_arg5) :=
  W12_args m ρ c main_arg5 (by decide)
end Cert.KernelIdeal.Gen

end
-- ==== Proof.KernelIdealRun.State.lean ====
/- The thread state of `KernelIdeal` between its items, and the record of its whole program. -/
module

public import proofs.«01_k».proof.Proof.KernelIdealRun.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V8 m ρ) c
  | ⟨2, _⟩ => fun c => dat2 (V9 m ρ) c
  | ⟨3, _⟩ => fun c => dat3 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W12`, the generator register at some state. -/
abbrev Tₙ (c : Dev nD) : sProp 𝕄 := iprop(StableHlo.held (c : Thread nD τ) (Pipeline.ucRefs τ sig) (W12 m ρ c) ∗ ∃ r, prngReg c r)

end Cert.KernelIdeal.Gen

end
-- ==== Proof.KernelIdealRun.Record0.lean ====
/- The pallas_call number 0 of `KernelIdeal` as one item of the whole program, from the contents it is entered with. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) (A_eq0 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record1.lean ====
/- The pallas_call number 1 of `KernelIdeal` as one item of the whole program, from the contents it is entered with. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) (A_eq1 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record2.lean ====
/- The pallas_call number 2 of `KernelIdeal` as one item of the whole program, from the contents it is entered with. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record3.lean ====
/- The pallas_call number 3 of `KernelIdeal` as one item of the whole program, from the contents it is entered with. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) (A_eq3 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Frame.lean ====
/- The frame theorem of `KernelIdeal`: the whole program runs from any launch memory, leaves its six arguments as they were and every semaphore counter at zero. -/
module

public import proofs.«01_k».proof.Proof.KernelIdealRun.Record0
public import proofs.«01_k».proof.Proof.KernelIdealRun.Record1
public import proofs.«01_k».proof.Proof.KernelIdealRun.Record2
public import proofs.«01_k».proof.Proof.KernelIdealRun.Record3

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .region (reg1 m ρ),
    .region (reg2 m ρ),
    .region (reg3 m ρ),
    .host (hseg hostOps4 hostOps4_sub hostOps4_fresh (W11 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole program runs from any launch memory and ends with every unscoped buffer at the contents `W12` of the last boundary and
    every semaphore counter at zero. -/
theorem run_all : θ_run defs (onTc (τ := τ) (main (F := F))) ⟨m, fun _ => 0, ρ⟩ (fun r => (∀ c : Dev nD,
      ∀ b ∈ Pipeline.ucRefs τ sig, r.2.mem ((c.tc : Thread nD τ).1, b) = W12 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W12_<arg>`;
    the kit shows every counter at zero except the TensorCores' unscoped ones, of which there are none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun s h => ⟨(fun c =>
      ⟨(h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c),
       (h.1 c _ (mem_uc main_arg3 (by decide))).trans (W12_main_arg3 m ρ c),
       (h.1 c _ (mem_uc main_arg4 (by decide))).trans (W12_main_arg4 m ρ c),
       (h.1 c _ (mem_uc main_arg5 (by decide))).trans (W12_main_arg5 m ρ c)⟩), h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (frame m ρ)

end Cert.KernelIdeal.Gen

end
-- ==== Proof.Value.Spec.lean ====
/- The mathematics of the layer over whole arrays, as functions of an index: the clipped codes of a tensor, the three
   contractions and their output scales; and the two facts about maxima that the amax results need. -/
module

public import proofs.«01_k».proof.Proof.Gen.KernelIdeal
public import Idealize.ShloMosaic.Lib.Pointwise
public import Idealize.ShloMosaic.Lib.Pipeline.ValueKit

@[expose] public section

set_option maxRecDepth 16384

noncomputable section

namespace Cert.Value

open Cert.KernelIdeal Idealize.ShloMosaic

/-- Clipping to the largest finite float8 e4m3 value, 448, on both sides. -/
def clip4 (v : EReal) : EReal := min (Ideal.ofBits .f32 0x43E00000#32) (max (Ideal.ofBits .f32 0xC3E00000#32) v)

/-- Clipping to the largest finite float8 e5m2 value, 57344, on both sides. -/
def clip5 (v : EReal) : EReal := min (Ideal.ofBits .f32 0x47600000#32) (max (Ideal.ofBits .f32 0xC7600000#32) v)

/-- The absolute value of an extended real. -/
def absE (v : EReal) : EReal := max v (-v)

/-- The codes of the activations `x` (4096 tokens by 6656) under the inverse scale `s`. -/
def codesX (x : FVec Ideal S4096x6656 .bf16) (s : EReal) : FVec Ideal S4096x6656 .fp8e4m3 := fun i => clip4 (x i * s)

/-- The codes of the weights `w` (6656 by 16384) under the inverse scale `s`. -/
def codesW (w : FVec Ideal S6656x16384 .f32) (s : EReal) : FVec Ideal S6656x16384 .fp8e4m3 := fun i => clip4 (w i * s)

/-- The codes of the output gradient `d` (4096 tokens by 16384) under the inverse scale `s`. -/
def codesD (d : FVec Ideal S4096x16384 .bf16) (s : EReal) : FVec Ideal S4096x16384 .fp8e5m2 := fun i => clip5 (d i * s)

/-- The forward product: codes of `x` times codes of `w`, times the output scale. -/
def fwd (xc : FVec Ideal S4096x6656 .fp8e4m3) (wc : FVec Ideal S6656x16384 .fp8e4m3) (s : EReal) : FVec Ideal S4096x16384 .bf16 :=
  fun i => (∑ k : Fin 6656, xc (ix2 (i 0) k) * wc (ix2 k (i 1))) * s

/-- The weight gradient: codes of `x` transposed times codes of `dy`, times the output scale. -/
def gradW (xc : FVec Ideal S4096x6656 .fp8e4m3) (dc : FVec Ideal S4096x16384 .fp8e5m2) (s : EReal) : FVec Ideal S6656x16384 .f32 :=
  fun i => (∑ k : Fin 4096, xc (ix2 k (i 0)) * dc (ix2 k (i 1))) * s

/-- The activation gradient: codes of `dy` times codes of `w` transposed, times the output scale. -/
def gradX (dc : FVec Ideal S4096x16384 .fp8e5m2) (wc : FVec Ideal S6656x16384 .fp8e4m3) (s : EReal) : FVec Ideal S4096x6656 .bf16 :=
  fun i => (∑ k : Fin 16384, dc (ix2 (i 0) k) * wc (ix2 (i 1) k)) * s

/-- The maximum of finitely many values, from minus infinity, is below a bound exactly when each value is. -/
theorem fold_max_bot_le {n : ℕ} (f : Fin n → EReal) (b : EReal) : Finset.univ.fold max ⊥ f ≤ b ↔ ∀ r, f r ≤ b := by
  rw [Finset.fold_max_le]
  simp

/-- The bfloat16 pattern 0xFF80 is minus infinity. -/
theorem negInf_bf16 : Ideal.ofBits .bf16 0xFF80#16 = ⊥ := by simp [Ideal.ofBits, Ideal.ieee]

/-- The float32 pattern 0xFF800000 is minus infinity. -/
theorem negInf_f32 : Ideal.ofBits .f32 0xFF800000#32 = ⊥ := by simp [Ideal.ofBits, Ideal.ieee]

/-- A load of a rectangle off a list of stores whose readback is `T` is the load off `T`. -/
theorem readCov_of_canon {sig : RefSig} {κ : Kind} {sp : Space} {s : Shape} {e : EltTy} (v : View sig κ sp s e)
    (L : List (View.Piece (Elt Ideal) s e)) (r : Rect s) (T : s.Idx → Elt Ideal e) (h : View.canon L = T) :
    v.readCov L r.toLoadRect = View.ld T r := by
  subst h
  exact View.readCov_eq_canon' v L r.toLoadRect

/-- A statement about the first `N` numbers, split at the last `k` of them. -/
theorem forall_split {N : ℕ} (P : Fin N → Prop) (k : ℕ) (h : k ≤ N) :
    (∀ r, P r) ↔ (∀ r : Fin (N - k), P ⟨r.val, by omega⟩) ∧ ∀ r : Fin k, P ⟨N - k + r.val, by omega⟩ := by
  refine ⟨fun H => ⟨fun r => H _, fun r => H _⟩, fun H r => ?_⟩
  rcases Nat.lt_or_ge r.val (N - k) with hr | hr
  · exact H.1 ⟨r.val, hr⟩
  · have := H.2 ⟨r.val - (N - k), by omega⟩
    rwa [show (⟨N - k + (r.val - (N - k)), by omega⟩ : Fin N) = r from Fin.ext (by simp only; omega)] at this

end Cert.Value
-- ==== Proof.Value.Scale.lean ====
/- The delayed scale of one history as a function of that history, and what the kernel's host operations before its first
   call leave: the two reshaped tensors, the three scales and the six scalars. -/
module

public import proofs.«01_k».proof.Proof.KernelIdealRun.Fold0
public import proofs.«01_k».proof.Proof.Value.Spec
public import Idealize.ShloMosaic.Lib.StableHlo.RunRead

@[expose] public section

set_option maxRecDepth 16384

noncomputable section

namespace Cert.Value

open Cert.KernelIdeal Cert.KernelIdeal.Gen Idealize.ShloMosaic Idealize.ShloMosaic.TcCoe Idealize.SL.Sem

/-- The largest entry of a history. -/
def histMax (h : FVec Ideal S16 .f32) : FVec Ideal S_ .f32 :=
  Host.reduce FloatOps.maximumf h (constant (F := Ideal) S_ .f32 0xFF800000#32) reducesTo_S16_S_d0 h_S_

/-- How many of the powers of two from 2^-126 to 2^127 and infinity the absolute value of `v` reaches. -/
def reached (v : FVec Ideal S_ .f32) : Vec Ideal S_ .i32 :=
  Host.reduce IntOp.addi
    (extui 32 (cmpf .oge (broadcastInDim S255 ![] bcast_S_S255 (Host.absf v : FVec Ideal S_ .f32))
      (bitcastToFloat .f32 (Host.shli (addi (iotaInDim S255 32 0) (broadcastInDim S255 ![] bcast_S_S255 (constantI S_ 32 1#32)))
        (broadcastInDim S255 ![] bcast_S_S255 (constantI S_ 32 23#32))) : FVec Ideal S255 .f32)) natLt_1_32)
    (constantI S_ 32 0#32) reducesTo_S255_S_d0 h_S_

/-- The exponent read off that count: the count less 126, and 0 when none or all are reached. -/
def expoOf (n : Vec Ideal S_ .i32) : Vec Ideal S_ .i32 :=
  select (ori (cmpi .eq n (constantI S_ 32 0#32)) (cmpi .eq n (constantI S_ 32 255#32))) (constantI S_ 32 0#32)
    (subi n (constantI S_ 32 126#32))

/-- The exponent of a history's scale, `rcp` being the word of one over the largest code value: 0 for a history of maximum 0. -/
def expo (h : FVec Ideal S16 .f32) (rcp : BitVec 32) : Vec Ideal S_ .i32 :=
  select (cmpf .oeq (histMax h) (constant (F := Ideal) S_ .f32 0x00000000#32)) (constantI S_ 32 0#32)
    (expoOf (reached (mulf (histMax h) (constant (F := Ideal) S_ .f32 rcp))))

/-- Two to the power `e`, as the float whose exponent field is `e + 127` clamped to its range. -/
def pow2 (e : Vec Ideal S_ .i32) : FVec Ideal S_ .f32 :=
  bitcastToFloat .f32 (Host.shli (minsi (maxsi (addi e (constantI S_ 32 127#32)) (constantI S_ 32 0#32)) (constantI S_ 32 255#32)) (constantI S_ 32 23#32))

/-- The scale of a history. -/
def scaleOf (h : FVec Ideal S16 .f32) (rcp : BitVec 32) : FVec Ideal S_ .f32 := pow2 (expo h rcp)

/-- The inverse scale of a history. -/
def invOf (h : FVec Ideal S16 .f32) (rcp : BitVec 32) : FVec Ideal S_ .f32 := pow2 (negi (expo h rcp))

/-- A history moved on by one step, with the newest maximum last. -/
def histNext (h : FVec Ideal S16 .f32) (a : FVec Ideal S_ .f32) : FVec Ideal S16 .f32 :=
  concatenate S16 0 [⟨S15, extractStridedSlice S15 ![1] h slices_S16_S15_1⟩, ⟨S1, broadcastInDim S1 ![] bcast_S_S1 a⟩] concatenates_S15_S1_S16_d0

section Reads
variable (U : Valuation τ sig (Elt Ideal))

theorem rd_x : StableHlo.after hostOps0 U (Proc.devRef .tc main_v0) = shapeCast S4096x6656 (U (Proc.devRef .tc main_arg0)) shapeCasts_S2x2048x6656_S4096x6656 := by
  after_reads_simp; rfl
theorem rd_dy : StableHlo.after hostOps0 U (Proc.devRef .tc main_v1) = shapeCast S4096x16384 (U (Proc.devRef .tc main_arg2)) shapeCasts_S2x2048x16384_S4096x16384 := by
  after_reads_simp; rfl

theorem rd_expo_x : StableHlo.after hostOps0_1 (StableHlo.after hostOps0 U) (Proc.devRef .tc main_v21) = expo (U (Proc.devRef .tc main_arg3)) 0x3B124925#32 := by
  after_reads_simp; rfl

theorem rd_expo_w : StableHlo.after hostOps0_3 (StableHlo.after hostOps0_2 U) (Proc.devRef .tc main_v50) = expo (U (Proc.devRef .tc main_arg4)) 0x3B124925#32 := by
  after_reads_simp; rfl
theorem rd_expo_dy : StableHlo.after hostOps0_5 (StableHlo.after hostOps0_4 U) (Proc.devRef .tc main_v79) = expo (U (Proc.devRef .tc main_arg5)) 0x37924925#32 := by
  after_reads_simp; rfl
theorem rd_scale_x : StableHlo.after hostOps0_2 U (Proc.devRef .tc main_v25) = pow2 (U (Proc.devRef .tc main_v21)) := by
  after_reads_simp; rfl
theorem rd_inv_x : StableHlo.after hostOps0_2 U (Proc.devRef .tc main_v30) = pow2 (negi (U (Proc.devRef .tc main_v21) : Vec Ideal S_ .i32)) := by
  after_reads_simp; rfl
theorem rd_scale_w : StableHlo.after hostOps0_4 U (Proc.devRef .tc main_v54) = pow2 (U (Proc.devRef .tc main_v50)) := by
  after_reads_simp; rfl
theorem rd_inv_w : StableHlo.after hostOps0_4 U (Proc.devRef .tc main_v59) = pow2 (negi (U (Proc.devRef .tc main_v50) : Vec Ideal S_ .i32)) := by
  after_reads_simp; rfl
theorem rd_scale_dy : StableHlo.after hostOps0_6 U (Proc.devRef .tc main_v83) = pow2 (U (Proc.devRef .tc main_v79)) := by
  after_reads_simp; rfl

/-- Six one-element arrays joined. -/
def packed (a b c d e f : FVec Ideal S1 .f32) : FVec Ideal S6 .f32 :=
  concatenate S6 0 [⟨S1, a⟩, ⟨S1, b⟩, ⟨S1, c⟩, ⟨S1, d⟩, ⟨S1, e⟩, ⟨S1, f⟩] concatenates_S1_S1_S1_S1_S1_S1_S6_d0

/-- The six scalars packed into one array. -/
def pack6 (a b c d e f : FVec Ideal S_ .f32) : FVec Ideal S6 .f32 :=
  packed (broadcastInDim S1 ![] bcast_S_S1 a) (broadcastInDim S1 ![] bcast_S_S1 b) (broadcastInDim S1 ![] bcast_S_S1 c)
    (broadcastInDim S1 ![] bcast_S_S1 d) (broadcastInDim S1 ![] bcast_S_S1 e) (broadcastInDim S1 ![] bcast_S_S1 f)

/-- Entry `k` of the packed scalars is the `k`-th scalar. -/
theorem pack6_at (a b c d e f : FVec Ideal S_ .f32) :
    pack6 a b c d e f (ix1 0) = a ix0 ∧ pack6 a b c d e f (ix1 1) = b ix0 ∧ pack6 a b c d e f (ix1 2) = c ix0
    ∧ pack6 a b c d e f (ix1 3) = d ix0 ∧ pack6 a b c d e f (ix1 4) = e ix0 ∧ pack6 a b c d e f (ix1 5) = f ix0 := by
  refine ⟨?_, ?_, ?_, ?_, ?_, ?_⟩ <;> (unfold pack6 packed; pointwise)

set_option maxHeartbeats 2000000 in
theorem rd_scal : StableHlo.after hostOps0_6 U (Proc.devRef .tc main_v98) =
    pack6 (U (Proc.devRef .tc main_v30)) (U (Proc.devRef .tc main_v59)) (pow2 (negi (U (Proc.devRef .tc main_v79) : Vec Ideal S_ .i32)))
      (mulf (U (Proc.devRef .tc main_v25) : FVec Ideal S_ .f32) (U (Proc.devRef .tc main_v54)))
      (mulf (pow2 (U (Proc.devRef .tc main_v79))) (U (Proc.devRef .tc main_v54) : FVec Ideal S_ .f32))
      (mulf (U (Proc.devRef .tc main_v25) : FVec Ideal S_ .f32) (pow2 (U (Proc.devRef .tc main_v79)))) := by
  after_reads_simp
  change packed (StableHlo.upto hostOps0_6 U 26 (Proc.devRef .tc main_v92)) (StableHlo.upto hostOps0_6 U 26 (Proc.devRef .tc main_v93)) (StableHlo.upto hostOps0_6 U 26 (Proc.devRef .tc main_v94)) (StableHlo.upto hostOps0_6 U 26 (Proc.devRef .tc main_v95)) (StableHlo.upto hostOps0_6 U 26 (Proc.devRef .tc main_v96)) (StableHlo.upto hostOps0_6 U 26 (Proc.devRef .tc main_v97)) = packed _ _ _ _ _ _
  congr 1 <;> (after_reads_simp; rfl)

end Reads

section Fold
variable (m : (ℓ : Loc nD τ sig) → Buf (Elt Ideal) ℓ) (ρ : Dev nD → PrngReg) (c : Dev nD)

/-- The activations and the output gradient, flattened to 4096 tokens. -/
theorem W7_x : W7 m ρ c (Proc.devRef .tc main_v0) = shapeCast S4096x6656 (m ((c : Thread nD τ).loc main_arg0)) shapeCasts_S2x2048x6656_S4096x6656 := by
  rw [W7_of m ρ c _ (by decide), W6_of m ρ c _ (by decide), W5_of m ρ c _ (by decide), W4_of m ρ c _ (by decide), W3_of m ρ c _ (by decide), W2_of m ρ c _ (by decide)]
  exact rd_x (W0 m ρ c)
theorem W7_dy : W7 m ρ c (Proc.devRef .tc main_v1) = shapeCast S4096x16384 (m ((c : Thread nD τ).loc main_arg2)) shapeCasts_S2x2048x16384_S4096x16384 := by
  rw [W7_of m ρ c _ (by decide), W6_of m ρ c _ (by decide), W5_of m ρ c _ (by decide), W4_of m ρ c _ (by decide), W3_of m ρ c _ (by decide), W2_of m ρ c _ (by decide)]
  exact rd_dy (W0 m ρ c)

theorem W2_expo : W2 m ρ c (Proc.devRef .tc main_v21) = expo (m ((c : Thread nD τ).loc main_arg3)) 0x3B124925#32 := rd_expo_x (W0 m ρ c)
theorem W4_expo : W4 m ρ c (Proc.devRef .tc main_v50) = expo (m ((c : Thread nD τ).loc main_arg4)) 0x3B124925#32 :=
  (rd_expo_w (W2 m ρ c)).trans (congrArg (expo · _) (W2_args m ρ c main_arg4 (by decide)))
theorem W6_expo : W6 m ρ c (Proc.devRef .tc main_v79) = expo (m ((c : Thread nD τ).loc main_arg5)) 0x37924925#32 :=
  (rd_expo_dy (W4 m ρ c)).trans (congrArg (expo · _) (W4_args m ρ c main_arg5 (by decide)))

/-- The scale of the activations, from their history, before the last stretch of host operations. -/
theorem W6_scale_x : W6 m ρ c (Proc.devRef .tc main_v25) = scaleOf (m ((c : Thread nD τ).loc main_arg3)) 0x3B124925#32 := by
  rw [W6_of m ρ c _ (by decide), W5_of m ρ c _ (by decide), W4_of m ρ c _ (by decide)]
  exact (rd_scale_x (W2 m ρ c)).trans (congrArg pow2 (W2_expo m ρ c))
theorem W6_inv_x : W6 m ρ c (Proc.devRef .tc main_v30) = invOf (m ((c : Thread nD τ).loc main_arg3)) 0x3B124925#32 := by
  rw [W6_of m ρ c _ (by decide), W5_of m ρ c _ (by decide), W4_of m ρ c _ (by decide)]
  exact (rd_inv_x (W2 m ρ c)).trans (congrArg (fun e => pow2 (negi (e : Vec Ideal S_ .i32))) (W2_expo m ρ c))
theorem W6_scale_w : W6 m ρ c (Proc.devRef .tc main_v54) = scaleOf (m ((c : Thread nD τ).loc main_arg4)) 0x3B124925#32 := by
  rw [W6_of m ρ c _ (by decide)]
  exact (rd_scale_w (W4 m ρ c)).trans (congrArg pow2 (W4_expo m ρ c))
theorem W6_inv_w : W6 m ρ c (Proc.devRef .tc main_v59) = invOf (m ((c : Thread nD τ).loc main_arg4)) 0x3B124925#32 := by
  rw [W6_of m ρ c _ (by decide)]
  exact (rd_inv_w (W4 m ρ c)).trans (congrArg (fun e => pow2 (negi (e : Vec Ideal S_ .i32))) (W4_expo m ρ c))

/-- The three scales as the calls find them. -/
theorem W7_scale_x : W7 m ρ c (Proc.devRef .tc main_v25) = scaleOf (m ((c : Thread nD τ).loc main_arg3)) 0x3B124925#32 :=
  (W7_of m ρ c _ (by decide)).trans (W6_scale_x m ρ c)
theorem W7_scale_w : W7 m ρ c (Proc.devRef .tc main_v54) = scaleOf (m ((c : Thread nD τ).loc main_arg4)) 0x3B124925#32 :=
  (W7_of m ρ c _ (by decide)).trans (W6_scale_w m ρ c)
theorem W7_scale_dy : W7 m ρ c (Proc.devRef .tc main_v83) = scaleOf (m ((c : Thread nD τ).loc main_arg5)) 0x37924925#32 :=
  (rd_scale_dy (W6 m ρ c)).trans (congrArg pow2 (W6_expo m ρ c))

/-- The six scalars as the calls find them: the three inverse scales and the three output scales. -/
theorem W7_scal : W7 m ρ c (Proc.devRef .tc main_v98) =
    pack6 (invOf (m ((c : Thread nD τ).loc main_arg3)) 0x3B124925#32) (invOf (m ((c : Thread nD τ).loc main_arg4)) 0x3B124925#32)
      (invOf (m ((c : Thread nD τ).loc main_arg5)) 0x37924925#32)
      (mulf (scaleOf (m ((c : Thread nD τ).loc main_arg3)) 0x3B124925#32) (scaleOf (m ((c : Thread nD τ).loc main_arg4)) 0x3B124925#32))
      (mulf (scaleOf (m ((c : Thread nD τ).loc main_arg5)) 0x37924925#32) (scaleOf (m ((c : Thread nD τ).loc main_arg4)) 0x3B124925#32))
      (mulf (scaleOf (m ((c : Thread nD τ).loc main_arg3)) 0x3B124925#32) (scaleOf (m ((c : Thread nD τ).loc main_arg5)) 0x37924925#32)) := by
  refine (rd_scal (W6 m ρ c)).trans ?_
  rw [W6_inv_x, W6_inv_w, W6_scale_x, W6_scale_w, W6_expo]
  rfl

end Fold

end Cert.Value
-- ==== Proof.Value.Amax.lean ====
/- The largest absolute value of a tensor, as the supremum over its indices, and the two ways the programs take it: a host
   reduction over all axes, and a reduction of partial maxima. -/
module

public import proofs.«01_k».proof.Proof.Value.Spec
public import Idealize.ShloMosaic.PureOps.Reduce

@[expose] public section

set_option maxRecDepth 16384

noncomputable section

namespace Cert.Value

open Cert.KernelIdeal Idealize.ShloMosaic

/-- The largest absolute value of a tensor, as a scalar. -/
def amaxOf {s : Shape} (v : s.Idx → EReal) : FVec Ideal S_ .f32 := fun _ => ⨆ i, absE (v i)

/-- A host reduction by maximum over all axes, from minus infinity, is below a bound exactly when every entry is. -/
theorem hostMax_le {s : Shape} {φ : FTy} {axes : List (Fin s.rank)} (x : FVec Ideal s φ) (init : FVec Ideal S_ φ) (h : s.ReducesTo axes S_)
    (hu : 0 < S_.numel) (hi : ∀ j, (show EReal from init j) = ⊥) (j : S_.Idx) (b : EReal) :
    (show EReal from (Host.reduce FloatOps.maximumf x init h hu : FVec Ideal S_ φ) j) ≤ b ↔ ∀ i, (show EReal from x i) ≤ b := by
  have e : (show EReal from (Host.reduce FloatOps.maximumf x init h hu : FVec Ideal S_ φ) j) = (Finset.univ.filter fun i => h.drop i = j).fold max (show EReal from init (Shape.Idx.first hu)) (fun i => (show EReal from x i)) :=
    Host.reduce_eq_fold (f := (FloatOps.maximumf : Ideal φ → Ideal φ → Ideal φ)) x init h hu j
  rw [e, Finset.fold_max_le, hi]
  refine ⟨fun H i => H.2 i (Finset.mem_filter.mpr ⟨Finset.mem_univ _, funext fun a => a.elim0⟩), fun H => ⟨bot_le, fun i _ => H i⟩⟩

/-- A host reduction by maximum of the absolute values of a tensor is its largest absolute value. -/
theorem hostMax_abs {s : Shape} {φ : FTy} {axes : List (Fin s.rank)} (x : FVec Ideal s φ) (init : FVec Ideal S_ φ) (h : s.ReducesTo axes S_)
    (hu : 0 < S_.numel) (hi : ∀ j, (show EReal from init j) = ⊥) :
    Host.reduce FloatOps.maximumf (Host.absf x : FVec Ideal s φ) init h hu = amaxOf (fun i => (show EReal from x i)) := by
  funext j
  refine eq_of_forall_ge_iff fun b => ?_
  exact (hostMax_le _ init h hu hi j b).trans iSup_le_iff.symm

/-- The largest absolute value does not depend on the shape a tensor is laid out in. -/
theorem amaxOf_shapeCast {s t : Shape} (x : s.Idx → EReal) (h : s.ShapeCasts t) : amaxOf (shapeCast t x h) = amaxOf x := by
  funext _
  exact (Shape.reshapeEquiv h).iSup_comp (g := fun i => absE (x i))

/-- Partial maxima reduced by the host are the largest absolute value when they have the same upper bounds. -/
theorem hostMax_partial {s t : Shape} {axes : List (Fin s.rank)} (p : FVec Ideal s .f32) (init : FVec Ideal S_ .f32) (h : s.ReducesTo axes S_)
    (hu : 0 < S_.numel) (hi : ∀ j, (show EReal from init j) = ⊥) (v : t.Idx → EReal)
    (hp : ∀ b : EReal, (∀ i, (show EReal from p i) ≤ b) ↔ ∀ i, absE (v i) ≤ b) :
    Host.reduce FloatOps.maximumf p init h hu = amaxOf v := by
  funext j
  refine eq_of_forall_ge_iff fun b => ?_
  exact (hostMax_le p init h hu hi j b).trans ((hp b).trans iSup_le_iff.symm)

end Cert.Value
-- ==== Proof.Value.Results.lean ====
/- The twelve results as functions of the six arguments, and what the kernel's run leaves in its result buffers: exactly these. -/
module

public import proofs.«01_k».proof.Proof.Value.Scale
public import proofs.«01_k».proof.Proof.Value.Amax

@[expose] public section

set_option maxRecDepth 16384

noncomputable section

namespace Cert.Value

open Cert.KernelIdeal Cert.KernelIdeal.Gen Idealize.ShloMosaic Idealize.ShloMosaic.TcCoe Idealize.SL.Sem

/-- The word of one over 448. -/
abbrev rcp4 : BitVec 32 := 0x3B124925#32
/-- The word of one over 57344. -/
abbrev rcp5 : BitVec 32 := 0x37924925#32

/-- Fifteen entries followed by one. -/
def joined (a : FVec Ideal S15 .f32) (b : FVec Ideal S1 .f32) : FVec Ideal S16 .f32 :=
  concatenate S16 0 [⟨S15, a⟩, ⟨S1, b⟩] concatenates_S15_S1_S16_d0

theorem histNext_eq (h : FVec Ideal S16 .f32) (a : FVec Ideal S_ .f32) :
    histNext h a = joined (extractStridedSlice S15 ![1] h slices_S16_S15_1) (broadcastInDim S1 ![] bcast_S_S1 a) := rfl

section Spec
variable (a0 : FVec Ideal S2x2048x6656 .bf16) (a1 : FVec Ideal S6656x16384 .f32) (a2 : FVec Ideal S2x2048x16384 .bf16) (a3 a4 a5 : FVec Ideal S16 .f32)

/-- The activations as 4096 tokens. -/
def flatX : FVec Ideal S4096x6656 .bf16 := shapeCast S4096x6656 a0 shapeCasts_S2x2048x6656_S4096x6656
/-- The output gradient as 4096 tokens. -/
def flatD : FVec Ideal S4096x16384 .bf16 := shapeCast S4096x16384 a2 shapeCasts_S2x2048x16384_S4096x16384
/-- The codes of the activations. -/
def allX : FVec Ideal S4096x6656 .fp8e4m3 := codesX (flatX a0) (invOf a3 rcp4 ix0)
/-- The codes of the weights. -/
def allW : FVec Ideal S6656x16384 .fp8e4m3 := codesW a1 (invOf a4 rcp4 ix0)
/-- The codes of the output gradient. -/
def allD : FVec Ideal S4096x16384 .fp8e5m2 := codesD (flatD a2) (invOf a5 rcp5 ix0)
/-- The forward product over 4096 tokens. -/
def flatY : FVec Ideal S4096x16384 .bf16 := fwd (allX a0 a3) (allW a1 a4) ((mulf (scaleOf a3 rcp4) (scaleOf a4 rcp4) : FVec Ideal S_ .f32) ix0)
/-- The activation gradient over 4096 tokens. -/
def flatDx : FVec Ideal S4096x6656 .bf16 := gradX (allD a2 a5) (allW a1 a4) ((mulf (scaleOf a5 rcp5) (scaleOf a4 rcp4) : FVec Ideal S_ .f32) ix0)
/-- Result 1, the forward product. -/
def resY : FVec Ideal S2x2048x16384 .bf16 := shapeCast S2x2048x16384 (flatY a0 a1 a3 a4) shapeCasts_S4096x16384_S2x2048x16384
/-- Result 2, the activation gradient. -/
def resDx : FVec Ideal S2x2048x6656 .bf16 := shapeCast S2x2048x6656 (flatDx a1 a2 a4 a5) shapeCasts_S4096x6656_S2x2048x6656
/-- Result 3, the weight gradient. -/
def resDw : FVec Ideal S6656x16384 .f32 := gradW (allX a0 a3) (allD a2 a5) ((mulf (scaleOf a3 rcp4) (scaleOf a5 rcp5) : FVec Ideal S_ .f32) ix0)
/-- Result 4, the history of the activations moved on by their largest absolute value. -/
def resHistX : FVec Ideal S16 .f32 := histNext a3 (amaxOf a0)
/-- Result 5, the history of the weights moved on. -/
def resHistW : FVec Ideal S16 .f32 := histNext a4 (amaxOf a1)
/-- Result 6, the history of the output gradient moved on. -/
def resHistD : FVec Ideal S16 .f32 := histNext a5 (amaxOf a2)
/-- Result 7, the codes of the activations. -/
def resXc : FVec Ideal S2x2048x6656 .fp8e4m3 := shapeCast S2x2048x6656 (allX a0 a3) shapeCasts_S4096x6656_S2x2048x6656
/-- Result 11, the codes of the output gradient. -/
def resDc : FVec Ideal S2x2048x16384 .fp8e5m2 := shapeCast S2x2048x16384 (allD a2 a5) shapeCasts_S4096x16384_S2x2048x16384

end Spec

end Cert.Value
-- ==== Proof.Value.Quant.lean ====
/- What the first call leaves: the codes of the activations, the same codes transposed, and the column maxima. -/
module

public import proofs.«01_k».proof.Proof.KernelIdealRun.Region0
public import proofs.«01_k».proof.Proof.Value.Spec
public import Idealize.ShloMosaic.Lib.Pipeline.ValueKit

@[expose] public section

set_option maxRecDepth 16384

noncomputable section

namespace Cert.Value

open Cert.KernelIdeal Cert.KernelIdeal.Gen Idealize.ShloMosaic Idealize.ShloMosaic.TcCoe Idealize.SL.Sem
open Idealize.ShloMosaic.Pipeline (Dat)

variable (V : (c : Dev nD) → (b : Ref sig Kind.tc) → Buf (Elt Ideal) (c.tc.loc b))

/-- Where the five windows of the first call sit at grid point `t`. -/
theorem idx0 : ∀ t : Fin cfg0.N, win0_0.index t = ![0] ∧ win0_1.index t = ![t.val, 0] ∧ win0_2.index t = ![t.val, 0]
    ∧ win0_3.index t = ![0, t.val] ∧ win0_4.index t = ![0, 0] :=
  (by decide +kernel : ∀ t : Fin grid0.N, _)

/-- The block of 256 rows of the activations that point `t` reads. -/
abbrev xBlk (c : Dev nD) (t : Fin cfg0.N) : FVec Ideal S256x6656 .bf16 := iblk0 V c 1 t

/-- The six scalars as point `t` reads them. -/
abbrev scal0 (c : Dev nD) (t : Fin cfg0.N) : FVec Ideal S6 .f32 := iblk0 V c 0 t

/-- What the first call stores as codes at a point, whichever case runs there. -/
theorem out0_codes (c : Dev nD) (t : Fin cfg0.N) (y0 : Fin 256) (y1 : Fin 6656) :
    (outsAt0 V c t.val t.isLt).1 (ix2 y0 y1) = clip4 (xBlk V c t (ix2 y0 y1) * scal0 V c t (ix1 0))
    ∧ (outsAt0 V c t.val t.isLt).2.1 (ix2 y1 y0) = clip4 (xBlk V c t (ix2 y0 y1) * scal0 V c t (ix1 0)) := by
  have hN : cfg0.N = 16 := N_0
  have ht := t.isLt
  by_cases h : t.val = 0
  · rw [outsAt0_A V c t (by omega) (by omega)]
    constructor <;> (frame_out; pointwise [k0_pay4, k0_pay3, k0_pay2, k0_pay1, clip4])
  · rw [outsAt0_B V c t (by omega) (by omega)]
    constructor <;> (frame_out; pointwise [k0_pay4, k0_pay3, k0_pay2, k0_pay1, clip4])

/-- The first result of the first call: the codes of the whole activation array. -/
theorem quant_codes (c : Dev nD) :
    (dat0 V c).arrAt 2 cfg0.N = codesX (V c main_v0) ((V c main_v98 : FVec Ideal S6 .f32) (ix1 0)) := by
  refine (dat0 V c).arrAt_eq_of_covers 2 _ (by decide +kernel) fun t _ y => ?_
  blk_simp
  rw [after0_2]
  idx_vars y
  refine (out0_codes V c t y0 y1).1.trans ?_
  unfold codesX
  blk_point [xBlk, scal0, iblk0, idx0 t]

/-- The second result of the first call: the same codes transposed. -/
theorem quant_codes_t (c : Dev nD) :
    (dat0 V c).arrAt 3 cfg0.N = ((fun i => codesX (V c main_v0) ((V c main_v98 : FVec Ideal S6 .f32) (ix1 0)) (ix2 (i 1) (i 0))) : FVec Ideal S6656x4096 .fp8e4m3) := by
  refine (dat0 V c).arrAt_eq_of_covers 3 _ (by decide +kernel) fun t _ y => ?_
  blk_simp
  rw [after0_3]
  idx_vars y
  refine (out0_codes V c t y1 y0).2.trans ?_
  unfold codesX
  blk_point [xBlk, scal0, iblk0, idx0 t]

/-- The column maximum of one block is below a bound exactly when every absolute value of the column is. -/
theorem pay0_le (v : FVec Ideal S256x6656 .bf16) (j : Fin 6656) (b : EReal) :
    (show EReal from k0_pay5 (F := Ideal) v (ix2 0 j)) ≤ b ↔ ∀ r : Fin 256, absE (v (ix2 r j)) ≤ b := by
  pointwise [k0_pay5, k0_pay1]
  rw [negInf_bf16]
  exact fold_max_bot_le _ b

/-- The column maxima after point `n`, by their upper bounds: the blocks of the points up to `n`. -/
theorem out0_amax (c : Dev nD) (j : Fin 6656) (b : EReal) : ∀ (n : ℕ) (h : n < cfg0.N),
    (show EReal from (outsAt0 V c n h).2.2 (ix2 0 j)) ≤ b ↔
      ∀ (t : ℕ) (ht : t < cfg0.N), t ≤ n → ∀ r : Fin 256, absE (xBlk V c ⟨t, ht⟩ (ix2 r j)) ≤ b
  | 0, h => by
    have e := outsAt0_A V c ⟨0, h⟩ rfl (by simp)
    dsimp only at e
    rw [e]
    frame_out
    refine (pay0_le (xBlk V c ⟨0, h⟩) j b).trans ⟨fun H t ht hn => ?_, fun H => H 0 h le_rfl⟩
    obtain rfl : t = 0 := by omega
    exact H
  | n + 1, h => by
    have hN : cfg0.N = 16 := N_0
    have e := outsAt0_B V c ⟨n + 1, h⟩ (by dsimp only; omega) (by simp)
    dsimp only at e
    rw [e]
    frame_out
    have ih := out0_amax c j b n (Nat.lt_of_succ_lt h)
    have hp := pay0_le (xBlk V c ⟨n + 1, h⟩) j b
    pointwise [k0_pay6]
    refine max_le_iff.trans ((and_congr ih hp).trans ⟨fun H t ht hn => ?_, fun H => ⟨fun t ht hn => H t ht (by omega), H (n + 1) h le_rfl⟩⟩)
    rcases Nat.lt_or_ge n t with hlt | hge
    · obtain rfl : t = n + 1 := by omega
      exact H.2
    · exact H.1 t ht hge

/-- The third result of the first call, by its upper bounds: column `j` is below `b` exactly when every absolute value of
    column `j` of the activations is. -/
theorem quant_amax (c : Dev nD) (j : Fin 6656) (b : EReal) :
    (show EReal from (dat0 V c).arrAt 4 cfg0.N (ix2 0 j : S1x6656.Idx)) ≤ b ↔
      ∀ i : Fin 4096, absE ((V c main_v0 : FVec Ideal S4096x6656 .bf16) (ix2 i j)) ≤ b := by
  have e : (dat0 V c).arrAt 4 cfg0.N = ((outsAt0 V c 15 (by rw [show cfg0.N = 16 from N_0]; decide)).2.2 : FVec Ideal S1x6656 .f32) := by
    refine (dat0 V c).arrAt_eq_of_after_last 4 t0_15 (by decide +kernel) _ fun j => ?_
    blk_simp
    rw [after0_4]
    have ht : (t0_15 : Fin cfg0.N).val = 15 := rfl
    simp only [ht]
  rw [e]
  refine (out0_amax V c j b 15 _).trans ⟨fun H i => ?_, fun H t ht hn r => ?_⟩
  · have h := H (i.val / 256) (by rw [show cfg0.N = 16 from N_0]; omega) (by omega) ⟨i.val % 256, by omega⟩
    convert h using 3
    blk_ext [xBlk, iblk0, idx0 _]
  · have hN : cfg0.N = 16 := N_0
    have h := H ⟨256 * t + r.val, by omega⟩
    convert h using 3
    blk_ext [xBlk, iblk0, idx0 _]

end Cert.Value
-- ==== Proof.Value.FwdPoint.lean ====
/- One grid point of the second call: the stored row tiles as functions of an index, and the column maxima by their bounds. -/
module

public import proofs.«01_k».proof.Proof.KernelIdealRun.Region1
public import proofs.«01_k».proof.Proof.Value.Spec
public import Idealize.ShloMosaic.Lib.Pipeline.ValueKit

@[expose] public section

set_option maxRecDepth 16384

noncomputable section

namespace Cert.Value

open Cert.KernelIdeal Cert.KernelIdeal.Gen Idealize.ShloMosaic Idealize.ShloMosaic.TcCoe Idealize.SL.Sem
open Idealize.ShloMosaic.Pipeline (Dat)

section Point
variable (c : Dev nD) (i : grid1.Coords) (a1 : Memref sig .tc .smem S6 .f32) (h1 : a1.IsWhole) (a2 : Memref sig .tc .vmem S4096x6656 .fp8e4m3) (h2 : a2.IsWhole)
  (a3 : Memref sig .tc .vmem S6656x256 .f32) (h3 : a3.IsWhole) (a4 : Memref sig .tc .vmem S4096x256 .bf16) (h4 : a4.IsWhole)
  (a5 : Memref sig .tc .vmem S6656x256 .fp8e4m3) (h5 : a5.IsWhole) (a6 : Memref sig .tc .vmem S1x256 .f32) (h6 : a6.IsWhole)
  (sc : FVec Ideal S6 .f32) (xc : FVec Ideal S4096x6656 .fp8e4m3) (wb : FVec Ideal S6656x256 .f32)

/-- The codes of one block of 256 columns of the weights. -/
def wCodes : FVec Ideal S6656x256 .fp8e4m3 := fun y => clip4 (wb y * sc (ix1 1))

/-- The forward product of one block of 256 columns. -/
def yBlk : FVec Ideal S4096x256 .bf16 := fun y => (∑ k : Fin 6656, xc (ix2 (y 0) k) * wCodes sc wb (ix2 k (y 1))) * sc (ix1 3)

/-- The 26 row tiles stored are the codes of the block (at the first point). -/
theorem codesA (hc0 : cond1_0 i) (hc1 : ¬cond1_1 i) :
    out1_A_4 (F := Ideal) c i a1 h1 a2 h2 a3 h3 a4 h4 a5 h5 a6 h6 hc0 hc1 sc xc wb = wCodes sc wb := by
  funext y
  frame_out
  canon_tiles x h
  all_goals (open_payloads; idx_vars x; unfold wCodes clip4; pointwise; blk_point [])

/-- The 26 row tiles stored are the codes of the block (at a later point). -/
theorem codesB (hc0 : ¬cond1_0 i) (hc1 : cond1_1 i) (xo : FVec Ideal S1x256 .f32) :
    out1_B_4 (F := Ideal) c i a1 h1 a2 h2 a3 h3 a4 h4 a5 h5 a6 h6 hc0 hc1 sc xc wb xo = wCodes sc wb := by
  funext y
  frame_out
  canon_tiles x h
  all_goals (open_payloads; idx_vars x; unfold wCodes clip4; pointwise; blk_point [])

/-- The 8 row tiles stored are the forward product of the block (at the first point). -/
theorem yA (hc0 : cond1_0 i) (hc1 : ¬cond1_1 i) :
    out1_A_3 (F := Ideal) c i a1 h1 a2 h2 a3 h3 a4 h4 a5 h5 a6 h6 hc0 hc1 sc xc wb = yBlk sc xc wb := by
  have e := codesA c i a1 h1 a2 h2 a3 h3 a4 h4 a5 h5 a6 h6 sc xc wb hc0 hc1
  revert e
  frame_out
  intro e
  simp only [readCov_of_canon _ _ _ _ e]
  funext y
  canon_tiles x h
  all_goals (open_payloads; idx_vars x; unfold yBlk; pointwise; blk_point [])

/-- The 8 row tiles stored are the forward product of the block (at a later point). -/
theorem yB (hc0 : ¬cond1_0 i) (hc1 : cond1_1 i) (xo : FVec Ideal S1x256 .f32) :
    out1_B_3 (F := Ideal) c i a1 h1 a2 h2 a3 h3 a4 h4 a5 h5 a6 h6 hc0 hc1 sc xc wb xo = yBlk sc xc wb := by
  have e := codesB c i a1 h1 a2 h2 a3 h3 a4 h4 a5 h5 a6 h6 sc xc wb hc0 hc1 xo
  revert e
  frame_out
  intro e
  simp only [readCov_of_canon _ _ _ _ e]
  funext y
  canon_tiles x h
  all_goals (open_payloads; idx_vars x; unfold yBlk; pointwise; blk_point [])

/-- The 26 partial column maxima together are below a bound exactly when every absolute value of the column is (at the first point). -/
theorem amaxA (hc0 : cond1_0 i) (hc1 : ¬cond1_1 i) (j : Fin 256) (b : EReal) :
    (show EReal from out1_A_5 (F := Ideal) c i a1 h1 a2 h2 a3 h3 a4 h4 a5 h5 a6 h6 hc0 hc1 sc xc wb (ix2 0 j)) ≤ b ↔ ∀ r : Fin 6656, absE (wb (ix2 r j)) ≤ b := by
  frame_out
  pointwise [k1_pay43, k1_pay41, k1_pay37, k1_pay34, k1_pay32, k1_pay29, k1_pay24, k1_pay19, k1_pay13, k1_pay9, k1_pay5]
  simp only [negInf_f32, max_le_iff, fold_max_bot_le]
  iterate 25 refine Iff.trans (and_congr ?_ Iff.rfl) (Iff.symm (forall_split _ 256 (by decide)))
  exact Iff.rfl

/-- The same at a later point, where the maximum so far is kept. -/
theorem amaxB (hc0 : ¬cond1_0 i) (hc1 : cond1_1 i) (xo : FVec Ideal S1x256 .f32) (j : Fin 256) (b : EReal) :
    (show EReal from out1_B_5 (F := Ideal) c i a1 h1 a2 h2 a3 h3 a4 h4 a5 h5 a6 h6 hc0 hc1 sc xc wb xo (ix2 0 j)) ≤ b ↔ (show EReal from xo (ix2 0 j)) ≤ b ∧ ∀ r : Fin 6656, absE (wb (ix2 r j)) ≤ b := by
  frame_out
  pointwise [k1_pay44, k1_pay43, k1_pay41, k1_pay37, k1_pay34, k1_pay32, k1_pay29, k1_pay24, k1_pay19, k1_pay13, k1_pay9, k1_pay5]
  simp only [negInf_f32, max_le_iff, fold_max_bot_le]
  refine and_congr Iff.rfl ?_
  iterate 25 refine Iff.trans (and_congr ?_ Iff.rfl) (Iff.symm (forall_split _ 256 (by decide)))
  exact Iff.rfl

end Point

end Cert.Value
-- ==== Proof.Value.Fwd.lean ====
/- What the second call leaves: the forward product, the codes of the weights, and the column maxima. -/
module

public import proofs.«01_k».proof.Proof.KernelIdealRun.Region1
public import proofs.«01_k».proof.Proof.Value.FwdPoint
public import Idealize.ShloMosaic.Lib.Pipeline.ValueKit

@[expose] public section

set_option maxRecDepth 16384

noncomputable section

namespace Cert.Value

open Cert.KernelIdeal Cert.KernelIdeal.Gen Idealize.ShloMosaic Idealize.ShloMosaic.TcCoe Idealize.SL.Sem
open Idealize.ShloMosaic.Pipeline (Dat)

variable (V : (c : Dev nD) → (b : Ref sig Kind.tc) → Buf (Elt Ideal) (c.tc.loc b))

/-- Where the six windows of the second call sit at grid point `t`. -/
theorem idx1 : ∀ t : Fin cfg1.N, win1_0.index t = ![0] ∧ win1_1.index t = ![0, 0] ∧ win1_2.index t = ![0, t.val]
    ∧ win1_3.index t = ![0, t.val] ∧ win1_4.index t = ![0, t.val] ∧ win1_5.index t = ![0, 0] :=
  (by decide +kernel : ∀ t : Fin grid1.N, _)

/-- The six scalars as point `t` reads them. -/
abbrev scal1 (c : Dev nD) (t : Fin cfg1.N) : FVec Ideal S6 .f32 := iblk1 V c 0 t
/-- The codes of the activations as point `t` reads them. -/
abbrev xqBlk (c : Dev nD) (t : Fin cfg1.N) : FVec Ideal S4096x6656 .fp8e4m3 := iblk1 V c 1 t
/-- The block of 256 columns of the weights that point `t` reads. -/
abbrev wBlk (c : Dev nD) (t : Fin cfg1.N) : FVec Ideal S6656x256 .f32 := iblk1 V c 2 t

theorem y1_A (c : Dev nD) (t : Fin cfg1.N) (h0 : t.val % 64 = 0) (h1 : ¬1 ≤ t.val) :
    (outsAt1 V c t.val t.isLt).1 = yBlk (scal1 V c t) (xqBlk V c t) (wBlk V c t) := by
  rw [outsAt1_A V c t h0 h1]
  dsimp only
  exact yA c (grid1.coords t) (ms1_0 t) (hs1_0 t) (ms1_1 t) (hs1_1 t) (ms1_2 t) (hs1_2 t) (ms1_3 t) (hs1_3 t) (ms1_4 t) (hs1_4 t)
    (ms1_5 t) (hs1_5 t) (scal1 V c t) (xqBlk V c t) (wBlk V c t) ((hcond1_0 t).mpr h0) (fun h => h1 ((hcond1_1 t).mp h))

theorem y1_B (c : Dev nD) (t : Fin cfg1.N) (h0 : ¬t.val % 64 = 0) (h1 : 1 ≤ t.val) :
    (outsAt1 V c t.val t.isLt).1 = yBlk (scal1 V c t) (xqBlk V c t) (wBlk V c t) := by
  rw [outsAt1_B V c t h0 h1]
  dsimp only
  exact yB c (grid1.coords t) (ms1_0 t) (hs1_0 t) (ms1_1 t) (hs1_1 t) (ms1_2 t) (hs1_2 t) (ms1_3 t) (hs1_3 t) (ms1_4 t) (hs1_4 t)
    (ms1_5 t) (hs1_5 t) (scal1 V c t) (xqBlk V c t) (wBlk V c t) (fun h => h0 ((hcond1_0 t).mp h)) ((hcond1_1 t).mpr h1) (outsAt1 V c (t.val - 1) (Nat.lt_of_le_of_lt (Nat.sub_le _ _) t.isLt)).2.2

theorem codes1_A (c : Dev nD) (t : Fin cfg1.N) (h0 : t.val % 64 = 0) (h1 : ¬1 ≤ t.val) :
    (outsAt1 V c t.val t.isLt).2.1 = wCodes (scal1 V c t) (wBlk V c t) := by
  rw [outsAt1_A V c t h0 h1]
  dsimp only
  exact codesA c (grid1.coords t) (ms1_0 t) (hs1_0 t) (ms1_1 t) (hs1_1 t) (ms1_2 t) (hs1_2 t) (ms1_3 t) (hs1_3 t) (ms1_4 t) (hs1_4 t)
    (ms1_5 t) (hs1_5 t) (scal1 V c t) (xqBlk V c t) (wBlk V c t) ((hcond1_0 t).mpr h0) (fun h => h1 ((hcond1_1 t).mp h))

theorem codes1_B (c : Dev nD) (t : Fin cfg1.N) (h0 : ¬t.val % 64 = 0) (h1 : 1 ≤ t.val) :
    (outsAt1 V c t.val t.isLt).2.1 = wCodes (scal1 V c t) (wBlk V c t) := by
  rw [outsAt1_B V c t h0 h1]
  dsimp only
  exact codesB c (grid1.coords t) (ms1_0 t) (hs1_0 t) (ms1_1 t) (hs1_1 t) (ms1_2 t) (hs1_2 t) (ms1_3 t) (hs1_3 t) (ms1_4 t) (hs1_4 t)
    (ms1_5 t) (hs1_5 t) (scal1 V c t) (xqBlk V c t) (wBlk V c t) (fun h => h0 ((hcond1_0 t).mp h)) ((hcond1_1 t).mpr h1) (outsAt1 V c (t.val - 1) (Nat.lt_of_le_of_lt (Nat.sub_le _ _) t.isLt)).2.2

/-- What the second call leaves at a point, whichever case runs there: the product and the codes of the block. -/
theorem out1_vals (c : Dev nD) (t : Fin cfg1.N) :
    (outsAt1 V c t.val t.isLt).1 = yBlk (scal1 V c t) (xqBlk V c t) (wBlk V c t)
    ∧ (outsAt1 V c t.val t.isLt).2.1 = wCodes (scal1 V c t) (wBlk V c t) := by
  have hN : cfg1.N = 64 := N_1
  have ht := t.isLt
  by_cases h : t.val = 0
  · exact ⟨y1_A V c t (by omega) (by omega), codes1_A V c t (by omega) (by omega)⟩
  · exact ⟨y1_B V c t (by omega) (by omega), codes1_B V c t (by omega) (by omega)⟩

/-- The second result of the second call: the codes of the whole weight array. -/
theorem fwd_codes (c : Dev nD) :
    (dat1 V c).arrAt 4 cfg1.N = codesW (V c main_arg1) ((V c main_v98 : FVec Ideal S6 .f32) (ix1 1)) := by
  refine (dat1 V c).arrAt_eq_of_covers 4 _ (by decide +kernel) fun t _ y => ?_
  blk_simp
  rw [after1_4]
  idx_vars y
  refine (congrFun (out1_vals V c t).2 (ix2 y0 y1)).trans ?_
  unfold wCodes codesW
  blk_point [wBlk, scal1, iblk1, idx1 t]

/-- The first result of the second call: the forward product of the codes. -/
theorem fwd_y (c : Dev nD) :
    (dat1 V c).arrAt 3 cfg1.N = fwd (V c main_v99_0) (codesW (V c main_arg1) ((V c main_v98 : FVec Ideal S6 .f32) (ix1 1)))
      ((V c main_v98 : FVec Ideal S6 .f32) (ix1 3)) := by
  refine (dat1 V c).arrAt_eq_of_covers 3 _ (by decide +kernel) fun t _ y => ?_
  blk_simp
  rw [after1_3]
  idx_vars y
  refine (congrFun (out1_vals V c t).1 (ix2 y0 y1)).trans ?_
  unfold yBlk wCodes fwd codesW
  pointwise
  blk_point [xqBlk, wBlk, scal1, iblk1, idx1 t]

/-- The column maxima after the first point. -/
theorem amax1_A (c : Dev nD) (t : Fin cfg1.N) (h0 : t.val % 64 = 0) (h1 : ¬1 ≤ t.val) (j : Fin 256) (b : EReal) :
    (show EReal from (outsAt1 V c t.val t.isLt).2.2 (ix2 0 j)) ≤ b ↔ ∀ r : Fin 6656, absE (wBlk V c t (ix2 r j)) ≤ b := by
  rw [outsAt1_A V c t h0 h1]
  dsimp only
  exact amaxA c (grid1.coords t) (ms1_0 t) (hs1_0 t) (ms1_1 t) (hs1_1 t) (ms1_2 t) (hs1_2 t) (ms1_3 t) (hs1_3 t) (ms1_4 t) (hs1_4 t)
    (ms1_5 t) (hs1_5 t) (scal1 V c t) (xqBlk V c t) (wBlk V c t) ((hcond1_0 t).mpr h0) (fun h => h1 ((hcond1_1 t).mp h)) j b

/-- The column maxima after a later point, from those after the point before. -/
theorem amax1_B (c : Dev nD) (t : Fin cfg1.N) (h0 : ¬t.val % 64 = 0) (h1 : 1 ≤ t.val) (j : Fin 256) (b : EReal) :
    (show EReal from (outsAt1 V c t.val t.isLt).2.2 (ix2 0 j)) ≤ b ↔
      (show EReal from (outsAt1 V c (t.val - 1) (Nat.lt_of_le_of_lt (Nat.sub_le _ _) t.isLt)).2.2 (ix2 0 j)) ≤ b
        ∧ ∀ r : Fin 6656, absE (wBlk V c t (ix2 r j)) ≤ b := by
  rw [outsAt1_B V c t h0 h1]
  dsimp only
  exact amaxB c (grid1.coords t) (ms1_0 t) (hs1_0 t) (ms1_1 t) (hs1_1 t) (ms1_2 t) (hs1_2 t) (ms1_3 t) (hs1_3 t) (ms1_4 t) (hs1_4 t)
    (ms1_5 t) (hs1_5 t) (scal1 V c t) (xqBlk V c t) (wBlk V c t) (fun h => h0 ((hcond1_0 t).mp h)) ((hcond1_1 t).mpr h1)
    (outsAt1 V c (t.val - 1) (Nat.lt_of_le_of_lt (Nat.sub_le _ _) t.isLt)).2.2 j b

/-- The column maxima after point `n`, by their upper bounds: the blocks of the points up to `n`. -/
theorem out1_amax (c : Dev nD) (j : Fin 256) (b : EReal) : ∀ (n : ℕ) (h : n < cfg1.N),
    (show EReal from (outsAt1 V c n h).2.2 (ix2 0 j)) ≤ b ↔
      ∀ (t : ℕ) (ht : t < cfg1.N), t ≤ n → ∀ r : Fin 6656, absE (wBlk V c ⟨t, ht⟩ (ix2 r j)) ≤ b
  | 0, h => by
    refine (amax1_A V c ⟨0, h⟩ rfl (by simp) j b).trans ⟨fun H t ht hn => ?_, fun H => H 0 h le_rfl⟩
    obtain rfl : t = 0 := by omega
    exact H
  | n + 1, h => by
    have hN : cfg1.N = 64 := N_1
    refine (amax1_B V c ⟨n + 1, h⟩ (by dsimp only; omega) (by simp) j b).trans
      ((and_congr (out1_amax c j b n (Nat.lt_of_succ_lt h)) Iff.rfl).trans
        ⟨fun H t ht hn => ?_, fun H => ⟨fun t ht hn => H t ht (by omega), H (n + 1) h le_rfl⟩⟩)
    rcases Nat.lt_or_ge n t with hlt | hge
    · obtain rfl : t = n + 1 := by omega
      exact H.2
    · exact H.1 t ht hge

/-- The array of column maxima after the run is what the last point left. -/
theorem amax1_last (c : Dev nD) (h : 63 < cfg1.N) : (dat1 V c).arrAt 5 cfg1.N = ((outsAt1 V c 63 h).2.2 : FVec Ideal S1x256 .f32) := by
  have hN : cfg1.N = 64 := N_1
  refine (dat1 V c).arrAt_eq_of_covers 5 _ (by decide +kernel) fun t hf y => ?_
  have ht : t.val = 63 := by have := (flush1_5 t).mp hf; have := t.isLt; omega
  blk_simp
  rw [after1_5]
  simp only [ht]
  generalize (outsAt1 V c 63 h).2.2 = G
  blk_ext [idx1 t]

/-- The third result of the second call, by its upper bounds: lane `j` is below `b` exactly when every absolute value of the
    weights in a column congruent to `j` modulo 256 is. -/
theorem fwd_amax (c : Dev nD) (j : Fin 256) (b : EReal) :
    (show EReal from (dat1 V c).arrAt 5 cfg1.N (ix2 0 j : S1x256.Idx)) ≤ b ↔
      ∀ (t : Fin 64) (r : Fin 6656), absE ((V c main_arg1 : FVec Ideal S6656x16384 .f32) (ix2 r ⟨t.val * 256 + j.val, by omega⟩)) ≤ b := by
  have hN : cfg1.N = 64 := N_1
  rw [amax1_last V c (by omega)]
  refine (out1_amax V c j b 63 _).trans ⟨fun H t r => ?_, fun H t ht hn r => ?_⟩
  · have h := H t.val (by omega) (by omega) r
    convert h using 3
    blk_ext [wBlk, iblk1, idx1 _]
  · have h := H ⟨t, by omega⟩ r
    convert h using 3
    blk_ext [wBlk, iblk1, idx1 _]

end Cert.Value
-- ==== Proof.Value.DwPoint.lean ====
/- One grid point of the third call: the stored row tiles as functions of an index, and the column maxima by their bounds. -/
module

public import proofs.«01_k».proof.Proof.KernelIdealRun.Region2
public import proofs.«01_k».proof.Proof.Value.Spec
public import Idealize.ShloMosaic.Lib.Pipeline.ValueKit

@[expose] public section

set_option maxRecDepth 16384

noncomputable section

namespace Cert.Value

open Cert.KernelIdeal Cert.KernelIdeal.Gen Idealize.ShloMosaic Idealize.ShloMosaic.TcCoe Idealize.SL.Sem
open Idealize.ShloMosaic.Pipeline (Dat)

section Point
variable (c : Dev nD) (i : grid2.Coords) (a1 : Memref sig .tc .smem S6 .f32) (h1 : a1.IsWhole) (a2 : Memref sig .tc .vmem S6656x4096 .fp8e4m3) (h2 : a2.IsWhole)
  (a3 : Memref sig .tc .vmem S4096x256 .bf16) (h3 : a3.IsWhole) (a4 : Memref sig .tc .vmem S6656x256 .f32) (h4 : a4.IsWhole)
  (a5 : Memref sig .tc .vmem S4096x256 .fp8e5m2) (h5 : a5.IsWhole) (a6 : Memref sig .tc .vmem S1x256 .f32) (h6 : a6.IsWhole)
  (sc : FVec Ideal S6 .f32) (xt : FVec Ideal S6656x4096 .fp8e4m3) (db : FVec Ideal S4096x256 .bf16)

/-- The codes of one block of 256 columns of the output gradient. -/
def dCodes : FVec Ideal S4096x256 .fp8e5m2 := fun y => clip5 (db y * sc (ix1 2))

/-- The weight gradient of one block of 256 columns. -/
def dwBlk : FVec Ideal S6656x256 .f32 := fun y => (∑ k : Fin 4096, xt (ix2 (y 0) k) * dCodes sc db (ix2 k (y 1))) * sc (ix1 5)

/-- The 16 row tiles stored are the codes of the block (at the first point). -/
theorem codes2A (hc0 : cond2_0 i) (hc1 : ¬cond2_1 i) :
    out2_A_4 (F := Ideal) c i a1 h1 a2 h2 a3 h3 a4 h4 a5 h5 a6 h6 hc0 hc1 sc xt db = dCodes sc db := by
  funext y
  frame_out
  canon_tiles x h
  all_goals (open_payloads; idx_vars x; unfold dCodes clip5; pointwise; blk_point [])

/-- The 16 row tiles stored are the codes of the block (at a later point). -/
theorem codes2B (hc0 : ¬cond2_0 i) (hc1 : cond2_1 i) (xo : FVec Ideal S1x256 .f32) :
    out2_B_4 (F := Ideal) c i a1 h1 a2 h2 a3 h3 a4 h4 a5 h5 a6 h6 hc0 hc1 sc xt db xo = dCodes sc db := by
  funext y
  frame_out
  canon_tiles x h
  all_goals (open_payloads; idx_vars x; unfold dCodes clip5; pointwise; blk_point [])

/-- The 13 row tiles stored are the weight gradient of the block (at the first point). -/
theorem dwA (hc0 : cond2_0 i) (hc1 : ¬cond2_1 i) :
    out2_A_3 (F := Ideal) c i a1 h1 a2 h2 a3 h3 a4 h4 a5 h5 a6 h6 hc0 hc1 sc xt db = dwBlk sc xt db := by
  have e := codes2A c i a1 h1 a2 h2 a3 h3 a4 h4 a5 h5 a6 h6 sc xt db hc0 hc1
  revert e
  frame_out
  intro e
  simp only [readCov_of_canon _ _ _ _ e]
  funext y
  canon_tiles x h
  all_goals (open_payloads; idx_vars x; unfold dwBlk; pointwise; blk_point [])

/-- The 13 row tiles stored are the weight gradient of the block (at a later point). -/
theorem dwB (hc0 : ¬cond2_0 i) (hc1 : cond2_1 i) (xo : FVec Ideal S1x256 .f32) :
    out2_B_3 (F := Ideal) c i a1 h1 a2 h2 a3 h3 a4 h4 a5 h5 a6 h6 hc0 hc1 sc xt db xo = dwBlk sc xt db := by
  have e := codes2B c i a1 h1 a2 h2 a3 h3 a4 h4 a5 h5 a6 h6 sc xt db hc0 hc1 xo
  revert e
  frame_out
  intro e
  simp only [readCov_of_canon _ _ _ _ e]
  funext y
  canon_tiles x h
  all_goals (open_payloads; idx_vars x; unfold dwBlk; pointwise; blk_point [])

/-- The 16 partial column maxima together are below a bound exactly when every absolute value of the column is (at the first point). -/
theorem amax2A (hc0 : cond2_0 i) (hc1 : ¬cond2_1 i) (j : Fin 256) (b : EReal) :
    (show EReal from out2_A_5 (F := Ideal) c i a1 h1 a2 h2 a3 h3 a4 h4 a5 h5 a6 h6 hc0 hc1 sc xt db (ix2 0 j)) ≤ b ↔ ∀ r : Fin 4096, absE (db (ix2 r j)) ≤ b := by
  frame_out
  pointwise [k2_pay44, k2_pay40, k2_pay35, k2_pay32, k2_pay26, k2_pay19, k2_pay14, k2_pay5, k2_pay41, k2_pay38, k2_pay36, k2_pay33, k2_pay30, k2_pay27, k2_pay24, k2_pay22, k2_pay20, k2_pay17, k2_pay15, k2_pay12, k2_pay10, k2_pay6, k2_pay3, k2_pay1]
  simp only [negInf_bf16, max_le_iff, fold_max_bot_le]
  iterate 15 refine Iff.trans (and_congr ?_ Iff.rfl) (Iff.symm (forall_split _ 256 (by decide)))
  exact Iff.rfl

/-- The same at a later point, where the maximum so far is kept. -/
theorem amax2B (hc0 : ¬cond2_0 i) (hc1 : cond2_1 i) (xo : FVec Ideal S1x256 .f32) (j : Fin 256) (b : EReal) :
    (show EReal from out2_B_5 (F := Ideal) c i a1 h1 a2 h2 a3 h3 a4 h4 a5 h5 a6 h6 hc0 hc1 sc xt db xo (ix2 0 j)) ≤ b ↔ (show EReal from xo (ix2 0 j)) ≤ b ∧ ∀ r : Fin 4096, absE (db (ix2 r j)) ≤ b := by
  frame_out
  pointwise [k2_pay45, k2_pay44, k2_pay40, k2_pay35, k2_pay32, k2_pay26, k2_pay19, k2_pay14, k2_pay5, k2_pay41, k2_pay38, k2_pay36, k2_pay33, k2_pay30, k2_pay27, k2_pay24, k2_pay22, k2_pay20, k2_pay17, k2_pay15, k2_pay12, k2_pay10, k2_pay6, k2_pay3, k2_pay1]
  simp only [negInf_bf16, max_le_iff, fold_max_bot_le]
  refine and_congr Iff.rfl ?_
  iterate 15 refine Iff.trans (and_congr ?_ Iff.rfl) (Iff.symm (forall_split _ 256 (by decide)))
  exact Iff.rfl

end Point

end Cert.Value
-- ==== Proof.Value.Dw.lean ====
/- What the third call leaves: the weight gradient, the codes of the output gradient, and the column maxima. -/
module

public import proofs.«01_k».proof.Proof.KernelIdealRun.Region2
public import proofs.«01_k».proof.Proof.Value.DwPoint
public import Idealize.ShloMosaic.Lib.Pipeline.ValueKit

@[expose] public section

set_option maxRecDepth 16384

noncomputable section

namespace Cert.Value

open Cert.KernelIdeal Cert.KernelIdeal.Gen Idealize.ShloMosaic Idealize.ShloMosaic.TcCoe Idealize.SL.Sem
open Idealize.ShloMosaic.Pipeline (Dat)

variable (V : (c : Dev nD) → (b : Ref sig Kind.tc) → Buf (Elt Ideal) (c.tc.loc b))

/-- The weight gradient from the codes of the activations already transposed. -/
def gradWt (xt : FVec Ideal S6656x4096 .fp8e4m3) (dc : FVec Ideal S4096x16384 .fp8e5m2) (s : EReal) : FVec Ideal S6656x16384 .f32 :=
  fun i => (∑ k : Fin 4096, xt (ix2 (i 0) k) * dc (ix2 k (i 1))) * s

/-- Where the six windows of the third call sit at grid point `t`. -/
theorem idx2 : ∀ t : Fin cfg2.N, win2_0.index t = ![0] ∧ win2_1.index t = ![0, 0] ∧ win2_2.index t = ![0, t.val]
    ∧ win2_3.index t = ![0, t.val] ∧ win2_4.index t = ![0, t.val] ∧ win2_5.index t = ![0, 0] :=
  (by decide +kernel : ∀ t : Fin grid2.N, _)

/-- The six scalars as point `t` reads them. -/
abbrev scal2 (c : Dev nD) (t : Fin cfg2.N) : FVec Ideal S6 .f32 := iblk2 V c 0 t
/-- The transposed codes of the activations as point `t` reads them. -/
abbrev xtBlk (c : Dev nD) (t : Fin cfg2.N) : FVec Ideal S6656x4096 .fp8e4m3 := iblk2 V c 1 t
/-- The block of 256 columns of the output gradient that point `t` reads. -/
abbrev dBlk (c : Dev nD) (t : Fin cfg2.N) : FVec Ideal S4096x256 .bf16 := iblk2 V c 2 t

theorem dw2_A (c : Dev nD) (t : Fin cfg2.N) (h0 : t.val % 64 = 0) (h1 : ¬1 ≤ t.val) :
    (outsAt2 V c t.val t.isLt).1 = dwBlk (scal2 V c t) (xtBlk V c t) (dBlk V c t) := by
  rw [outsAt2_A V c t h0 h1]
  dsimp only
  exact dwA c (grid2.coords t) (ms2_0 t) (hs2_0 t) (ms2_1 t) (hs2_1 t) (ms2_2 t) (hs2_2 t) (ms2_3 t) (hs2_3 t) (ms2_4 t) (hs2_4 t)
    (ms2_5 t) (hs2_5 t) (scal2 V c t) (xtBlk V c t) (dBlk V c t) ((hcond2_0 t).mpr h0) (fun h => h1 ((hcond2_1 t).mp h))

theorem dw2_B (c : Dev nD) (t : Fin cfg2.N) (h0 : ¬t.val % 64 = 0) (h1 : 1 ≤ t.val) :
    (outsAt2 V c t.val t.isLt).1 = dwBlk (scal2 V c t) (xtBlk V c t) (dBlk V c t) := by
  rw [outsAt2_B V c t h0 h1]
  dsimp only
  exact dwB c (grid2.coords t) (ms2_0 t) (hs2_0 t) (ms2_1 t) (hs2_1 t) (ms2_2 t) (hs2_2 t) (ms2_3 t) (hs2_3 t) (ms2_4 t) (hs2_4 t)
    (ms2_5 t) (hs2_5 t) (scal2 V c t) (xtBlk V c t) (dBlk V c t) (fun h => h0 ((hcond2_0 t).mp h)) ((hcond2_1 t).mpr h1) (outsAt2 V c (t.val - 1) (Nat.lt_of_le_of_lt (Nat.sub_le _ _) t.isLt)).2.2

theorem codes2_A (c : Dev nD) (t : Fin cfg2.N) (h0 : t.val % 64 = 0) (h1 : ¬1 ≤ t.val) :
    (outsAt2 V c t.val t.isLt).2.1 = dCodes (scal2 V c t) (dBlk V c t) := by
  rw [outsAt2_A V c t h0 h1]
  dsimp only
  exact codes2A c (grid2.coords t) (ms2_0 t) (hs2_0 t) (ms2_1 t) (hs2_1 t) (ms2_2 t) (hs2_2 t) (ms2_3 t) (hs2_3 t) (ms2_4 t) (hs2_4 t)
    (ms2_5 t) (hs2_5 t) (scal2 V c t) (xtBlk V c t) (dBlk V c t) ((hcond2_0 t).mpr h0) (fun h => h1 ((hcond2_1 t).mp h))

theorem codes2_B (c : Dev nD) (t : Fin cfg2.N) (h0 : ¬t.val % 64 = 0) (h1 : 1 ≤ t.val) :
    (outsAt2 V c t.val t.isLt).2.1 = dCodes (scal2 V c t) (dBlk V c t) := by
  rw [outsAt2_B V c t h0 h1]
  dsimp only
  exact codes2B c (grid2.coords t) (ms2_0 t) (hs2_0 t) (ms2_1 t) (hs2_1 t) (ms2_2 t) (hs2_2 t) (ms2_3 t) (hs2_3 t) (ms2_4 t) (hs2_4 t)
    (ms2_5 t) (hs2_5 t) (scal2 V c t) (xtBlk V c t) (dBlk V c t) (fun h => h0 ((hcond2_0 t).mp h)) ((hcond2_1 t).mpr h1) (outsAt2 V c (t.val - 1) (Nat.lt_of_le_of_lt (Nat.sub_le _ _) t.isLt)).2.2

/-- What the third call leaves at a point, whichever case runs there: the product and the codes of the block. -/
theorem out2_vals (c : Dev nD) (t : Fin cfg2.N) :
    (outsAt2 V c t.val t.isLt).1 = dwBlk (scal2 V c t) (xtBlk V c t) (dBlk V c t)
    ∧ (outsAt2 V c t.val t.isLt).2.1 = dCodes (scal2 V c t) (dBlk V c t) := by
  have hN : cfg2.N = 64 := N_2
  have ht := t.isLt
  by_cases h : t.val = 0
  · exact ⟨dw2_A V c t (by omega) (by omega), codes2_A V c t (by omega) (by omega)⟩
  · exact ⟨dw2_B V c t (by omega) (by omega), codes2_B V c t (by omega) (by omega)⟩

/-- The second result of the third call: the codes of the whole output gradient. -/
theorem dw_codes (c : Dev nD) :
    (dat2 V c).arrAt 4 cfg2.N = codesD (V c main_v1) ((V c main_v98 : FVec Ideal S6 .f32) (ix1 2)) := by
  refine (dat2 V c).arrAt_eq_of_covers 4 _ (by decide +kernel) fun t _ y => ?_
  blk_simp
  rw [after2_4]
  idx_vars y
  refine (congrFun (out2_vals V c t).2 (ix2 y0 y1)).trans ?_
  unfold dCodes codesD
  blk_point [dBlk, scal2, iblk2, idx2 t]

/-- The first result of the third call: the weight gradient of the codes. -/
theorem dw_grad (c : Dev nD) :
    (dat2 V c).arrAt 3 cfg2.N = gradWt (V c main_v99_1) (codesD (V c main_v1) ((V c main_v98 : FVec Ideal S6 .f32) (ix1 2)))
      ((V c main_v98 : FVec Ideal S6 .f32) (ix1 5)) := by
  refine (dat2 V c).arrAt_eq_of_covers 3 _ (by decide +kernel) fun t _ y => ?_
  blk_simp
  rw [after2_3]
  idx_vars y
  refine (congrFun (out2_vals V c t).1 (ix2 y0 y1)).trans ?_
  unfold dwBlk dCodes gradWt codesD
  pointwise
  blk_point [xtBlk, dBlk, scal2, iblk2, idx2 t]

/-- The column maxima after the first point. -/
theorem amax2_A (c : Dev nD) (t : Fin cfg2.N) (h0 : t.val % 64 = 0) (h1 : ¬1 ≤ t.val) (j : Fin 256) (b : EReal) :
    (show EReal from (outsAt2 V c t.val t.isLt).2.2 (ix2 0 j)) ≤ b ↔ ∀ r : Fin 4096, absE (dBlk V c t (ix2 r j)) ≤ b := by
  rw [outsAt2_A V c t h0 h1]
  dsimp only
  exact amax2A c (grid2.coords t) (ms2_0 t) (hs2_0 t) (ms2_1 t) (hs2_1 t) (ms2_2 t) (hs2_2 t) (ms2_3 t) (hs2_3 t) (ms2_4 t) (hs2_4 t)
    (ms2_5 t) (hs2_5 t) (scal2 V c t) (xtBlk V c t) (dBlk V c t) ((hcond2_0 t).mpr h0) (fun h => h1 ((hcond2_1 t).mp h)) j b

/-- The column maxima after a later point, from those after the point before. -/
theorem amax2_B (c : Dev nD) (t : Fin cfg2.N) (h0 : ¬t.val % 64 = 0) (h1 : 1 ≤ t.val) (j : Fin 256) (b : EReal) :
    (show EReal from (outsAt2 V c t.val t.isLt).2.2 (ix2 0 j)) ≤ b ↔
      (show EReal from (outsAt2 V c (t.val - 1) (Nat.lt_of_le_of_lt (Nat.sub_le _ _) t.isLt)).2.2 (ix2 0 j)) ≤ b
        ∧ ∀ r : Fin 4096, absE (dBlk V c t (ix2 r j)) ≤ b := by
  rw [outsAt2_B V c t h0 h1]
  dsimp only
  exact amax2B c (grid2.coords t) (ms2_0 t) (hs2_0 t) (ms2_1 t) (hs2_1 t) (ms2_2 t) (hs2_2 t) (ms2_3 t) (hs2_3 t) (ms2_4 t) (hs2_4 t)
    (ms2_5 t) (hs2_5 t) (scal2 V c t) (xtBlk V c t) (dBlk V c t) (fun h => h0 ((hcond2_0 t).mp h)) ((hcond2_1 t).mpr h1)
    (outsAt2 V c (t.val - 1) (Nat.lt_of_le_of_lt (Nat.sub_le _ _) t.isLt)).2.2 j b

/-- The column maxima after point `n`, by their upper bounds: the blocks of the points up to `n`. -/
theorem out2_amax (c : Dev nD) (j : Fin 256) (b : EReal) : ∀ (n : ℕ) (h : n < cfg2.N),
    (show EReal from (outsAt2 V c n h).2.2 (ix2 0 j)) ≤ b ↔
      ∀ (t : ℕ) (ht : t < cfg2.N), t ≤ n → ∀ r : Fin 4096, absE (dBlk V c ⟨t, ht⟩ (ix2 r j)) ≤ b
  | 0, h => by
    refine (amax2_A V c ⟨0, h⟩ rfl (by simp) j b).trans ⟨fun H t ht hn => ?_, fun H => H 0 h le_rfl⟩
    obtain rfl : t = 0 := by omega
    exact H
  | n + 1, h => by
    have hN : cfg2.N = 64 := N_2
    refine (amax2_B V c ⟨n + 1, h⟩ (by dsimp only; omega) (by simp) j b).trans
      ((and_congr (out2_amax c j b n (Nat.lt_of_succ_lt h)) Iff.rfl).trans
        ⟨fun H t ht hn => ?_, fun H => ⟨fun t ht hn => H t ht (by omega), H (n + 1) h le_rfl⟩⟩)
    rcases Nat.lt_or_ge n t with hlt | hge
    · obtain rfl : t = n + 1 := by omega
      exact H.2
    · exact H.1 t ht hge

/-- The array of column maxima after the run is what the last point left. -/
theorem amax2_last (c : Dev nD) (h : 63 < cfg2.N) : (dat2 V c).arrAt 5 cfg2.N = ((outsAt2 V c 63 h).2.2 : FVec Ideal S1x256 .f32) := by
  have hN : cfg2.N = 64 := N_2
  refine (dat2 V c).arrAt_eq_of_covers 5 _ (by decide +kernel) fun t hf y => ?_
  have ht : t.val = 63 := by have := (flush2_5 t).mp hf; have := t.isLt; omega
  blk_simp
  rw [after2_5]
  simp only [ht]
  generalize (outsAt2 V c 63 h).2.2 = G
  blk_ext [idx2 t]

/-- The third result of the third call, by its upper bounds: lane `j` is below `b` exactly when every absolute value of the
    output gradient in a column congruent to `j` modulo 256 is. -/
theorem dw_amax (c : Dev nD) (j : Fin 256) (b : EReal) :
    (show EReal from (dat2 V c).arrAt 5 cfg2.N (ix2 0 j : S1x256.Idx)) ≤ b ↔
      ∀ (t : Fin 64) (r : Fin 4096), absE ((V c main_v1 : FVec Ideal S4096x16384 .bf16) (ix2 r ⟨t.val * 256 + j.val, by omega⟩)) ≤ b := by
  have hN : cfg2.N = 64 := N_2
  rw [amax2_last V c (by omega)]
  refine (out2_amax V c j b 63 _).trans ⟨fun H t r => ?_, fun H t ht hn r => ?_⟩
  · have h := H t.val (by omega) (by omega) r
    convert h using 3
    blk_ext [dBlk, iblk2, idx2 _]
  · have h := H ⟨t, by omega⟩ r
    convert h using 3
    blk_ext [dBlk, iblk2, idx2 _]

end Cert.Value
-- ==== Proof.Value.Dx.lean ====
/- What the fourth call leaves: the activation gradient. -/
module

public import proofs.«01_k».proof.Proof.KernelIdealRun.Region3
public import proofs.«01_k».proof.Proof.Value.Spec
public import Idealize.ShloMosaic.Lib.Pipeline.ValueKit

@[expose] public section

set_option maxRecDepth 16384

noncomputable section

namespace Cert.Value

open Cert.KernelIdeal Cert.KernelIdeal.Gen Idealize.ShloMosaic Idealize.ShloMosaic.TcCoe Idealize.SL.Sem
open Idealize.ShloMosaic.Pipeline (Dat)

section Point
variable (c : Dev nD) (i : grid3.Coords) (a1 : Memref sig .tc .smem S6 .f32) (h1 : a1.IsWhole) (a2 : Memref sig .tc .vmem S1024x16384 .fp8e5m2) (h2 : a2.IsWhole)
  (a3 : Memref sig .tc .vmem S512x16384 .fp8e4m3) (h3 : a3.IsWhole) (a4 : Memref sig .tc .vmem S1024x512 .bf16) (h4 : a4.IsWhole)
  (sc : FVec Ideal S6 .f32) (db : FVec Ideal S1024x16384 .fp8e5m2) (wb : FVec Ideal S512x16384 .fp8e4m3)

/-- The activation gradient of one block of 1024 tokens by 512 columns. -/
def dxBlk : FVec Ideal S1024x512 .bf16 := fun y => (∑ k : Fin 16384, db (ix2 (y 0) k) * wb (ix2 (y 1) k)) * sc (ix1 4)

/-- The two row tiles stored are the activation gradient of the block. -/
theorem dxA : out3_A_3 (F := Ideal) c i a1 h1 a2 h2 a3 h3 a4 h4 sc db wb = dxBlk sc db wb := by
  funext y
  frame_out
  canon_tiles x h
  all_goals (open_payloads; idx_vars x; unfold dxBlk; pointwise; blk_point [])

end Point

variable (V : (c : Dev nD) → (b : Ref sig Kind.tc) → Buf (Elt Ideal) (c.tc.loc b))

/-- Where the four windows of the fourth call sit at grid point `t`. -/
theorem idx3 : ∀ t : Fin cfg3.N, win3_0.index t = ![0] ∧ win3_1.index t = ![t.val / 13, 0] ∧ win3_2.index t = ![t.val % 13, 0]
    ∧ win3_3.index t = ![t.val / 13, t.val % 13] :=
  (by decide +kernel : ∀ t : Fin grid3.N, _)

/-- The six scalars as point `t` reads them. -/
abbrev scal3 (c : Dev nD) (t : Fin cfg3.N) : FVec Ideal S6 .f32 := iblk3 V c 0 t
/-- The block of 1024 rows of the codes of the output gradient that point `t` reads. -/
abbrev dqBlk (c : Dev nD) (t : Fin cfg3.N) : FVec Ideal S1024x16384 .fp8e5m2 := iblk3 V c 1 t
/-- The block of 512 rows of the codes of the weights that point `t` reads. -/
abbrev wqBlk (c : Dev nD) (t : Fin cfg3.N) : FVec Ideal S512x16384 .fp8e4m3 := iblk3 V c 2 t

/-- What the fourth call leaves at a point: the activation gradient of its block. -/
theorem out3_vals (c : Dev nD) (t : Fin cfg3.N) : outsAt3 V c t = dxBlk (scal3 V c t) (dqBlk V c t) (wqBlk V c t) :=
  dxA c (grid3.coords t) (ms3_0 t) (hs3_0 t) (ms3_1 t) (hs3_1 t) (ms3_2 t) (hs3_2 t) (ms3_3 t) (hs3_3 t) (scal3 V c t) (dqBlk V c t) (wqBlk V c t)

/-- The result of the fourth call: the activation gradient of the codes. -/
theorem dx_grad (c : Dev nD) :
    (dat3 V c).arrAt 3 cfg3.N = gradX (V c main_v101_1) (V c main_v100_1) ((V c main_v98 : FVec Ideal S6 .f32) (ix1 4)) := by
  refine (dat3 V c).arrAt_eq_of_covers 3 _ (by decide +kernel) fun t _ y => ?_
  blk_simp
  rw [after3_3]
  idx_vars y
  refine (congrFun (out3_vals V c t) (ix2 y0 y1)).trans ?_
  unfold dxBlk gradX
  pointwise
  blk_point [dqBlk, wqBlk, scal3, iblk3, idx3 t]

end Cert.Value
-- ==== Proof.Value.KernelRead.lean ====
/- What the kernel's run leaves in its twelve result buffers. -/
module

public import proofs.«01_k».proof.Proof.Value.Results
public import proofs.«01_k».proof.Proof.Value.Quant
public import proofs.«01_k».proof.Proof.Value.Fwd
public import proofs.«01_k».proof.Proof.Value.Dw
public import proofs.«01_k».proof.Proof.Value.Dx

@[expose] public section

set_option maxRecDepth 16384

noncomputable section

namespace Cert.Value

open Cert.KernelIdeal Cert.KernelIdeal.Gen Idealize.ShloMosaic Idealize.ShloMosaic.TcCoe Idealize.SL.Sem

section Tail
variable (U : Valuation τ sig (Elt Ideal))

theorem rd_y : StableHlo.after hostOps4 U (Proc.devRef .tc main_v103) = shapeCast S2x2048x16384 (U (Proc.devRef .tc main_v100_0)) shapeCasts_S4096x16384_S2x2048x16384 := by
  after_reads_simp; rfl
theorem rd_dx : StableHlo.after hostOps4 U (Proc.devRef .tc main_v104) = shapeCast S2x2048x6656 (U (Proc.devRef .tc main_v102)) shapeCasts_S4096x6656_S2x2048x6656 := by
  after_reads_simp; rfl
theorem rd_xc : StableHlo.after hostOps4 U (Proc.devRef .tc main_v117) = shapeCast S2x2048x6656 (U (Proc.devRef .tc main_v99_0)) shapeCasts_S4096x6656_S2x2048x6656 := by
  after_reads_simp; rfl
theorem rd_dc : StableHlo.after hostOps4 U (Proc.devRef .tc main_v118) = shapeCast S2x2048x16384 (U (Proc.devRef .tc main_v101_1)) shapeCasts_S4096x16384_S2x2048x16384 := by
  after_reads_simp; rfl
theorem rd_hist_x : StableHlo.after hostOps4 U (Proc.devRef .tc main_v108) = histNext (U (Proc.devRef .tc main_arg3))
    (Host.reduce FloatOps.maximumf (U (Proc.devRef .tc main_v99_2) : FVec Ideal S1x6656 .f32) (constant (F := Ideal) S_ .f32 0xFF800000#32) reducesTo_S1x6656_S_d0_1 h_S_) := by
  rw [histNext_eq]
  after_reads_simp
  refine Eq.trans (b := joined (StableHlo.upto hostOps4 U 6 (Proc.devRef .tc main_v105)) (StableHlo.upto hostOps4 U 6 (Proc.devRef .tc main_v107))) rfl ?_
  refine congrArg₂ joined ?_ ?_ <;> after_reads_simp
theorem rd_hist_w : StableHlo.after hostOps4 U (Proc.devRef .tc main_v112) = histNext (U (Proc.devRef .tc main_arg4))
    (Host.reduce FloatOps.maximumf (U (Proc.devRef .tc main_v100_2) : FVec Ideal S1x256 .f32) (constant (F := Ideal) S_ .f32 0xFF800000#32) reducesTo_S1x256_S_d0_1 h_S_) := by
  rw [histNext_eq]
  after_reads_simp
  refine Eq.trans (b := joined (StableHlo.upto hostOps4 U 11 (Proc.devRef .tc main_v109)) (StableHlo.upto hostOps4 U 11 (Proc.devRef .tc main_v111))) rfl ?_
  refine congrArg₂ joined ?_ ?_ <;> after_reads_simp
theorem rd_hist_dy : StableHlo.after hostOps4 U (Proc.devRef .tc main_v116) = histNext (U (Proc.devRef .tc main_arg5))
    (Host.reduce FloatOps.maximumf (U (Proc.devRef .tc main_v101_2) : FVec Ideal S1x256 .f32) (constant (F := Ideal) S_ .f32 0xFF800000#32) reducesTo_S1x256_S_d0_1 h_S_) := by
  rw [histNext_eq]
  after_reads_simp
  refine Eq.trans (b := joined (StableHlo.upto hostOps4 U 16 (Proc.devRef .tc main_v113)) (StableHlo.upto hostOps4 U 16 (Proc.devRef .tc main_v115))) rfl ?_
  refine congrArg₂ joined ?_ ?_ <;> after_reads_simp

end Tail

variable (m : (ℓ : Loc nD τ sig) → Buf (Elt Ideal) ℓ) (ρ : Dev nD → PrngReg) (c : Dev nD)

/-- The six arguments as launched. -/
abbrev K0 : FVec Ideal S2x2048x6656 .bf16 := m ((c : Thread nD τ).loc main_arg0)
abbrev K1 : FVec Ideal S6656x16384 .f32 := m ((c : Thread nD τ).loc main_arg1)
abbrev K2 : FVec Ideal S2x2048x16384 .bf16 := m ((c : Thread nD τ).loc main_arg2)
abbrev K3 : FVec Ideal S16 .f32 := m ((c : Thread nD τ).loc main_arg3)
abbrev K4 : FVec Ideal S16 .f32 := m ((c : Thread nD τ).loc main_arg4)
abbrev K5 : FVec Ideal S16 .f32 := m ((c : Thread nD τ).loc main_arg5)

/-- The six scalars, entry by entry, as the first call finds them. -/
theorem scal7 :
    (V7 m ρ c main_v98 : FVec Ideal S6 .f32) (ix1 0) = invOf (K3 m c) rcp4 ix0
    ∧ (V7 m ρ c main_v98 : FVec Ideal S6 .f32) (ix1 1) = invOf (K4 m c) rcp4 ix0
    ∧ (V7 m ρ c main_v98 : FVec Ideal S6 .f32) (ix1 2) = invOf (K5 m c) rcp5 ix0
    ∧ (V7 m ρ c main_v98 : FVec Ideal S6 .f32) (ix1 3) = (mulf (scaleOf (K3 m c) rcp4) (scaleOf (K4 m c) rcp4) : FVec Ideal S_ .f32) ix0
    ∧ (V7 m ρ c main_v98 : FVec Ideal S6 .f32) (ix1 4) = (mulf (scaleOf (K5 m c) rcp5) (scaleOf (K4 m c) rcp4) : FVec Ideal S_ .f32) ix0
    ∧ (V7 m ρ c main_v98 : FVec Ideal S6 .f32) (ix1 5) = (mulf (scaleOf (K3 m c) rcp4) (scaleOf (K5 m c) rcp5) : FVec Ideal S_ .f32) ix0 := by
  have h : (V7 m ρ c main_v98 : FVec Ideal S6 .f32) = _ := W7_scal m ρ c
  rw [h]
  exact pack6_at _ _ _ _ _ _

/-- The later calls find the same six scalars. -/
theorem V8_scal : V8 m ρ c main_v98 = V7 m ρ c main_v98 := W8_of m ρ c main_v98 (by decide +kernel)
theorem V9_scal : V9 m ρ c main_v98 = V7 m ρ c main_v98 := (W9_of m ρ c main_v98 (by decide +kernel)).trans (V8_scal m ρ c)
theorem V10_scal : V10 m ρ c main_v98 = V7 m ρ c main_v98 := (W10_of m ρ c main_v98 (by decide +kernel)).trans (V9_scal m ρ c)

theorem V7_x : V7 m ρ c main_v0 = flatX (K0 m c) := W7_x m ρ c
theorem V9_dy : V9 m ρ c main_v1 = flatD (K2 m c) :=
  (W9_of m ρ c main_v1 (by decide +kernel)).trans ((W8_of m ρ c main_v1 (by decide +kernel)).trans (W7_dy m ρ c))

/-- After the first call: the codes of the activations, and their transpose. -/
theorem V8_xc : V8 m ρ c main_v99_0 = allX (K0 m c) (K3 m c) := by
  refine (W8_arr m ρ c 2).trans ((quant_codes (V7 m ρ) c).trans ?_)
  rw [V7_x, (scal7 m ρ c).1]; rfl
theorem V8_xct : V8 m ρ c main_v99_1 = ((fun i => allX (K0 m c) (K3 m c) (ix2 (i 1) (i 0))) : FVec Ideal S6656x4096 .fp8e4m3) := by
  refine (W8_arr m ρ c 3).trans ((quant_codes_t (V7 m ρ) c).trans ?_)
  rw [V7_x, (scal7 m ρ c).1]; rfl
/-- After the second call: the codes of the weights, and the forward product. -/
theorem V9_wc : V9 m ρ c main_v100_1 = allW (K1 m c) (K4 m c) := by
  refine (W9_arr m ρ c 4).trans ((fwd_codes (V8 m ρ) c).trans ?_)
  rw [V8_scal, (scal7 m ρ c).2.1, show V8 m ρ c main_arg1 = K1 m c from W8_args m ρ c main_arg1 (by decide)]; rfl
theorem V9_y : V9 m ρ c main_v100_0 = flatY (K0 m c) (K1 m c) (K3 m c) (K4 m c) := by
  refine (W9_arr m ρ c 3).trans ((fwd_y (V8 m ρ) c).trans ?_)
  rw [V8_scal, (scal7 m ρ c).2.1, (scal7 m ρ c).2.2.2.1, V8_xc, show V8 m ρ c main_arg1 = K1 m c from W8_args m ρ c main_arg1 (by decide)]; rfl
/-- After the third call: the codes of the output gradient, and the weight gradient. -/
theorem V10_dc : V10 m ρ c main_v101_1 = allD (K2 m c) (K5 m c) := by
  refine (W10_arr m ρ c 4).trans ((dw_codes (V9 m ρ) c).trans ?_)
  rw [V9_scal, (scal7 m ρ c).2.2.1, V9_dy]; rfl
theorem V10_dw : V10 m ρ c main_v101_0 = resDw (K0 m c) (K2 m c) (K3 m c) (K5 m c) := by
  refine (W10_arr m ρ c 3).trans ((dw_grad (V9 m ρ) c).trans ?_)
  rw [V9_scal, (scal7 m ρ c).2.2.1, (scal7 m ρ c).2.2.2.2.2, V9_dy,
    show V9 m ρ c main_v99_1 = V8 m ρ c main_v99_1 from W9_of m ρ c main_v99_1 (by decide +kernel), V8_xct]; rfl
/-- After the fourth call: the activation gradient. -/
theorem V11_dx : V11 m ρ c main_v102 = flatDx (K1 m c) (K2 m c) (K4 m c) (K5 m c) := by
  refine (W11_arr m ρ c 3).trans ((dx_grad (V10 m ρ) c).trans ?_)
  rw [V10_scal, (scal7 m ρ c).2.2.2.2.1, V10_dc,
    show V10 m ρ c main_v100_1 = V9 m ρ c main_v100_1 from W10_of m ρ c main_v100_1 (by decide +kernel), V9_wc]; rfl

/-- The column maxima of the three tensors reduce to their largest absolute values. -/
theorem amax_x : Host.reduce FloatOps.maximumf (W11 m ρ c (Proc.devRef .tc main_v99_2) : FVec Ideal S1x6656 .f32) (constant (F := Ideal) S_ .f32 0xFF800000#32) reducesTo_S1x6656_S_d0_1 h_S_
    = amaxOf (K0 m c) := by
  refine (hostMax_partial _ _ _ _ (fun _ => negInf_f32) (flatX (K0 m c)) fun b => ?_).trans (amaxOf_shapeCast (K0 m c) _)
  have e : W11 m ρ c (Proc.devRef .tc main_v99_2) = (dat0 (V7 m ρ) c).arrAt 4 cfg0.N :=
    (W11_of m ρ c main_v99_2 (by decide +kernel)).trans ((W10_of m ρ c main_v99_2 (by decide +kernel)).trans
      ((W9_of m ρ c main_v99_2 (by decide +kernel)).trans (W8_arr m ρ c 4)))
  rw [e, ← V7_x m ρ c]
  refine ⟨fun H i => ?_, fun H i => ?_⟩
  · idx_vars i
    exact (quant_amax (V7 m ρ) c i1 b).mp (H (ix2 0 i1)) i0
  · idx_vars i
    obtain rfl : i0 = 0 := Subsingleton.elim _ _
    exact (quant_amax (V7 m ρ) c i1 b).mpr fun r => H (ix2 r i1)

theorem amax_w : Host.reduce FloatOps.maximumf (W11 m ρ c (Proc.devRef .tc main_v100_2) : FVec Ideal S1x256 .f32) (constant (F := Ideal) S_ .f32 0xFF800000#32) reducesTo_S1x256_S_d0_1 h_S_
    = amaxOf (K1 m c) := by
  refine hostMax_partial _ _ _ _ (fun _ => negInf_f32) (K1 m c) fun b => ?_
  have e : W11 m ρ c (Proc.devRef .tc main_v100_2) = (dat1 (V8 m ρ) c).arrAt 5 cfg1.N :=
    (W11_of m ρ c main_v100_2 (by decide +kernel)).trans ((W10_of m ρ c main_v100_2 (by decide +kernel)).trans (W9_arr m ρ c 5))
  rw [e, show K1 m c = V8 m ρ c main_arg1 from (W8_args m ρ c main_arg1 (by decide)).symm]
  refine ⟨fun H i => ?_, fun H i => ?_⟩
  · idx_vars i
    have h := (fwd_amax (V8 m ρ) c ⟨i1.val % 256, by omega⟩ b).mp (H (ix2 0 ⟨i1.val % 256, by omega⟩)) ⟨i1.val / 256, by omega⟩ i0
    rwa [show (⟨i1.val / 256 * 256 + i1.val % 256, by omega⟩ : Fin 16384) = i1 from Fin.ext (by simp only; omega)] at h
  · idx_vars i
    obtain rfl : i0 = 0 := Subsingleton.elim _ _
    exact (fwd_amax (V8 m ρ) c i1 b).mpr fun t r => H (ix2 r _)

theorem amax_dy : Host.reduce FloatOps.maximumf (W11 m ρ c (Proc.devRef .tc main_v101_2) : FVec Ideal S1x256 .f32) (constant (F := Ideal) S_ .f32 0xFF800000#32) reducesTo_S1x256_S_d0_1 h_S_
    = amaxOf (K2 m c) := by
  refine (hostMax_partial _ _ _ _ (fun _ => negInf_f32) (flatD (K2 m c)) fun b => ?_).trans (amaxOf_shapeCast (K2 m c) _)
  have e : W11 m ρ c (Proc.devRef .tc main_v101_2) = (dat2 (V9 m ρ) c).arrAt 5 cfg2.N :=
    (W11_of m ρ c main_v101_2 (by decide +kernel)).trans (W10_arr m ρ c 5)
  rw [e, ← V9_dy m ρ c]
  refine ⟨fun H i => ?_, fun H i => ?_⟩
  · idx_vars i
    have h := (dw_amax (V9 m ρ) c ⟨i1.val % 256, by omega⟩ b).mp (H (ix2 0 ⟨i1.val % 256, by omega⟩)) ⟨i1.val / 256, by omega⟩ i0
    rwa [show (⟨i1.val / 256 * 256 + i1.val % 256, by omega⟩ : Fin 16384) = i1 from Fin.ext (by simp only; omega)] at h
  · idx_vars i
    obtain rfl : i0 = 0 := Subsingleton.elim _ _
    exact (dw_amax (V9 m ρ) c i1 b).mpr fun t r => H (ix2 r _)

/-- The twelve result buffers at the end of the kernel's run. -/
theorem K_y : W12 m ρ c (Proc.devRef .tc main_v103) = resY (K0 m c) (K1 m c) (K3 m c) (K4 m c) :=
  (rd_y (W11 m ρ c)).trans (congrArg (fun v => shapeCast S2x2048x16384 (v : FVec Ideal S4096x16384 .bf16) shapeCasts_S4096x16384_S2x2048x16384)
    ((W11_of m ρ c main_v100_0 (by decide +kernel)).trans ((W10_of m ρ c main_v100_0 (by decide +kernel)).trans (V9_y m ρ c))))
theorem K_dx : W12 m ρ c (Proc.devRef .tc main_v104) = resDx (K1 m c) (K2 m c) (K4 m c) (K5 m c) :=
  (rd_dx (W11 m ρ c)).trans (congrArg (fun v => shapeCast S2x2048x6656 (v : FVec Ideal S4096x6656 .bf16) shapeCasts_S4096x6656_S2x2048x6656) (V11_dx m ρ c))
theorem K_dw : W12 m ρ c (Proc.devRef .tc main_v101_0) = resDw (K0 m c) (K2 m c) (K3 m c) (K5 m c) :=
  (W12_of m ρ c main_v101_0 (by decide)).trans ((W11_of m ρ c main_v101_0 (by decide +kernel)).trans (V10_dw m ρ c))
theorem K_hist_x : W12 m ρ c (Proc.devRef .tc main_v108) = resHistX (K0 m c) (K3 m c) := by
  refine (rd_hist_x (W11 m ρ c)).trans ?_
  rw [amax_x, show W11 m ρ c (Proc.devRef .tc main_arg3) = K3 m c from W11_args m ρ c main_arg3 (by decide)]; rfl
theorem K_hist_w : W12 m ρ c (Proc.devRef .tc main_v112) = resHistW (K1 m c) (K4 m c) := by
  refine (rd_hist_w (W11 m ρ c)).trans ?_
  rw [amax_w, show W11 m ρ c (Proc.devRef .tc main_arg4) = K4 m c from W11_args m ρ c main_arg4 (by decide)]; rfl
theorem K_hist_dy : W12 m ρ c (Proc.devRef .tc main_v116) = resHistD (K2 m c) (K5 m c) := by
  refine (rd_hist_dy (W11 m ρ c)).trans ?_
  rw [amax_dy, show W11 m ρ c (Proc.devRef .tc main_arg5) = K5 m c from W11_args m ρ c main_arg5 (by decide)]; rfl
theorem K_xc : W12 m ρ c (Proc.devRef .tc main_v117) = resXc (K0 m c) (K3 m c) :=
  (rd_xc (W11 m ρ c)).trans (congrArg (fun v => shapeCast S2x2048x6656 (v : FVec Ideal S4096x6656 .fp8e4m3) shapeCasts_S4096x6656_S2x2048x6656)
    ((W11_of m ρ c main_v99_0 (by decide +kernel)).trans ((W10_of m ρ c main_v99_0 (by decide +kernel)).trans
      ((W9_of m ρ c main_v99_0 (by decide +kernel)).trans (V8_xc m ρ c)))))
theorem K_dc : W12 m ρ c (Proc.devRef .tc main_v118) = resDc (K2 m c) (K5 m c) :=
  (rd_dc (W11 m ρ c)).trans (congrArg (fun v => shapeCast S2x2048x16384 (v : FVec Ideal S4096x16384 .fp8e5m2) shapeCasts_S4096x16384_S2x2048x16384)
    ((W11_of m ρ c main_v101_1 (by decide +kernel)).trans (V10_dc m ρ c)))
theorem K_wc : W12 m ρ c (Proc.devRef .tc main_v100_1) = allW (K1 m c) (K4 m c) :=
  (W12_of m ρ c main_v100_1 (by decide)).trans ((W11_of m ρ c main_v100_1 (by decide +kernel)).trans
    ((W10_of m ρ c main_v100_1 (by decide +kernel)).trans (V9_wc m ρ c)))
/-- A buffer that no call and no later operation writes ends as the first call found it. -/
theorem K_keep (r : Ref sig .tc) (h12 : r ∉ hostOps4_W) (h11 : ∀ w : Fin cfg3.W, Pipeline.arrRef spec3 w = r → (cfg3.win w).isOut = false)
    (h10 : ∀ w : Fin cfg2.W, Pipeline.arrRef spec2 w = r → (cfg2.win w).isOut = false) (h9 : ∀ w : Fin cfg1.W, Pipeline.arrRef spec1 w = r → (cfg1.win w).isOut = false)
    (h8 : ∀ w : Fin cfg0.W, Pipeline.arrRef spec0 w = r → (cfg0.win w).isOut = false) :
    W12 m ρ c (Proc.devRef .tc r) = W7 m ρ c (Proc.devRef .tc r) :=
  (W12_of m ρ c r h12).trans ((W11_of m ρ c r h11).trans ((W10_of m ρ c r h10).trans ((W9_of m ρ c r h9).trans (W8_of m ρ c r h8))))
theorem K_xs : W12 m ρ c (Proc.devRef .tc main_v25) = scaleOf (K3 m c) rcp4 :=
  (K_keep m ρ c main_v25 (by decide) (by decide +kernel) (by decide +kernel) (by decide +kernel) (by decide +kernel)).trans (W7_scale_x m ρ c)
theorem K_ws : W12 m ρ c (Proc.devRef .tc main_v54) = scaleOf (K4 m c) rcp4 :=
  (K_keep m ρ c main_v54 (by decide) (by decide +kernel) (by decide +kernel) (by decide +kernel) (by decide +kernel)).trans (W7_scale_w m ρ c)
theorem K_ds : W12 m ρ c (Proc.devRef .tc main_v83) = scaleOf (K5 m c) rcp5 :=
  (K_keep m ρ c main_v83 (by decide) (by decide +kernel) (by decide +kernel) (by decide +kernel) (by decide +kernel)).trans (W7_scale_dy m ρ c)

end Cert.Value
-- ==== Proof.Value.ScaleWord.lean ====
/- The scale of a history in two ways: the kernel's, which counts the powers of two that the largest entry reaches, and the
   reference's, the smallest power of two above it and one over that. They agree at the extended reals. -/
module

public import proofs.«01_k».proof.Proof.Value.Results
public import proofs.«01_k».proof.Proof.Gen.ReferenceIdeal.Frame
public import Idealize.ShloMosaic.PureOps.Reduce
public import Idealize.ShloMosaic.Lib.Routing.Ops

@[expose] public section

set_option maxRecDepth 16384

noncomputable section

namespace Cert.Value

open Cert.KernelIdeal Cert.KernelIdeal.Gen Idealize.ShloMosaic

/-- The float of exponent field `k` and no fraction. -/
def fieldVal (k : ℕ) : EReal := Ideal.ofBits .f32 (BitVec.ofNat 32 k <<< 23)

theorem field_bits : ∀ k : Fin 256, (((BitVec.ofNat 32 k.val <<< 23).extractLsb' 31 1 == 1#1) = false)
    ∧ ((BitVec.ofNat 32 k.val <<< 23).extractLsb' 23 8).toNat = k.val ∧ ((BitVec.ofNat 32 k.val <<< 23).extractLsb' 0 23).toNat = 0 := by
  decide +kernel

/-- Between the extremes it is a power of two. -/
theorem fieldVal_of {k : ℕ} (h1 : 1 ≤ k) (h2 : k ≤ 254) : fieldVal k = (((2 : ℝ) ^ ((k : ℤ) - 127) : ℝ) : EReal) := by
  have hk : k < 256 := by omega
  obtain ⟨hn, he, hf⟩ := field_bits ⟨k, hk⟩
  generalize hw : BitVec.ofNat 32 (Fin.mk k hk).val <<< 23 = w at hn he hf
  have e0 : fieldVal k = Ideal.ieee 8 23 w := congrArg (Ideal.ieee 8 23) hw
  rw [e0]
  unfold Ideal.ieee
  rw [show 8 + 23 = 31 from rfl, hn, he, hf]
  rw [if_neg (by show ¬ k = _; norm_num; omega), if_neg (by show ¬ k = _; omega)]
  show (((if (false = true) then (-1 : ℝ) else 1) * ((2 ^ 23 + 0 : ℕ) : ℝ) * (2 : ℝ) ^ ((k : ℤ) - (2 ^ (8 - 1) - 1) - ((23 : ℕ) : ℤ)) : ℝ) : EReal) = _
  congr 1
  have e : (k : ℤ) - (2 ^ (8 - 1) - 1) - ((23 : ℕ) : ℤ) = ((k : ℤ) - 127) - 23 := by norm_num
  rw [e, zpow_sub₀ (by norm_num : (2 : ℝ) ≠ 0)]
  norm_num
  ring

theorem fieldVal_zero : fieldVal 0 = 0 := by simp [fieldVal, Ideal.ofBits, Ideal.ieee]
theorem fieldVal_top : fieldVal 255 = ⊤ := by simp [fieldVal, Ideal.ofBits, Ideal.ieee]
theorem fieldVal_one : fieldVal 127 = 1 := by rw [fieldVal_of (by omega) (by omega)]; simp

theorem fieldVal_lt {j k : ℕ} (h1 : 1 ≤ j) (hjk : j < k) (h2 : k ≤ 255) : fieldVal j < fieldVal k := by
  rw [fieldVal_of h1 (by omega)]
  rcases Nat.lt_or_ge k 255 with hk | hk
  · rw [fieldVal_of (by omega) (by omega), EReal.coe_lt_coe_iff]
    exact zpow_lt_zpow_right₀ (by norm_num) (by omega)
  · rw [show k = 255 by omega, fieldVal_top]
    exact EReal.coe_lt_top _

theorem fieldVal_le {j k : ℕ} (h1 : 1 ≤ j) (hjk : j ≤ k) (h2 : k ≤ 255) : fieldVal j ≤ fieldVal k := by
  rcases hjk.eq_or_lt with h | h
  · rw [h]
  · exact (fieldVal_lt h1 h h2).le

/-- How many of the values of fields 1 to 255 a number reaches: they are the first ones. -/
theorem threshold (v : EReal) : ∃ n : ℕ, n ≤ 255 ∧ ∀ j, j < 255 → (fieldVal (j + 1) ≤ v ↔ j < n) := by
  classical
  by_cases h : ∃ j, j < 255 ∧ v < fieldVal (j + 1)
  · obtain ⟨hn, hv⟩ := Nat.find_spec h
    refine ⟨Nat.find h, hn.le, fun j hj => ⟨fun hle => ?_, fun hlt => ?_⟩⟩
    · by_contra hge
      exact absurd (hle.trans_lt (hv.trans_le (fieldVal_le (by omega) (by omega) (by omega)))) (lt_irrefl _)
    · exact le_of_not_gt fun hc => Nat.find_min h hlt ⟨hj, hc⟩
  · refine ⟨255, le_rfl, fun j hj => ⟨fun _ => hj, fun _ => le_of_not_gt fun hc => h ⟨j, hj, hc⟩⟩⟩

theorem select_pos {α : Type} {s : Shape} (c : IVec s 1) (x y : s.Idx → α) (i : s.Idx) (h : c i = 1#1) : select c x y i = x i := if_pos h
theorem select_neg {α : Type} {s : Shape} (c : IVec s 1) (x y : s.Idx → α) (i : s.Idx) (h : ¬ c i = 1#1) : select c x y i = y i := if_neg h

/-! ## The kernel's side -/

/-- The exponent field that the kernel makes of an exponent, and the exponent that it makes of a count. -/
def fieldOf (e : BitVec 32) : BitVec 32 :=
  (Host.shli (minsi (maxsi (addi (fun _ => e : Vec Ideal S_ .i32) (constantI S_ 32 127#32)) (constantI S_ 32 0#32)) (constantI S_ 32 255#32)) (constantI S_ 32 23#32)) ix0
def expOf (n : BitVec 32) : BitVec 32 := expoOf (fun _ => n) ix0
def negOf (e : BitVec 32) : BitVec 32 := (negi (fun _ => e : Vec Ideal S_ .i32)) ix0

theorem field_words : ∀ n : Fin 256,
    fieldOf (expOf (BitVec.ofNat 32 n.val)) = BitVec.ofNat 32 (if n.val = 0 ∨ n.val = 255 then 127 else n.val + 1) <<< 23
    ∧ fieldOf (negOf (expOf (BitVec.ofNat 32 n.val))) = BitVec.ofNat 32 (if n.val = 0 ∨ n.val = 255 then 127 else 253 - n.val) <<< 23 := by
  decide +kernel

theorem field_word_zero : fieldOf 0#32 = BitVec.ofNat 32 127 <<< 23 ∧ fieldOf (negOf 0#32) = BitVec.ofNat 32 127 <<< 23 := by
  decide +kernel

theorem range_sum : ∀ n : Fin 256, ((List.range 255).map fun j => if j < n.val then 1 else 0).sum = n.val := by
  decide +kernel

/-- The powers that the kernel counts are the values of fields 1 to 255. -/
theorem count_word : ∀ j : Fin 255, (Host.shli (addi (iotaInDim S255 32 0) (broadcastInDim S255 ![] bcast_S_S255 (constantI S_ 32 1#32)))
        (broadcastInDim S255 ![] bcast_S_S255 (constantI S_ 32 23#32)) : Vec Ideal S255 .i32) (ix1 j) = BitVec.ofNat 32 (j.val + 1) <<< 23 := by
  decide +kernel

theorem reached_eq (v : FVec Ideal S_ .f32) (n : ℕ) (hn : n ≤ 255)
    (h : ∀ j, j < 255 → (fieldVal (j + 1) ≤ absE (v ix0) ↔ j < n)) : reached v ix0 = BitVec.ofNat 32 n := by
  have hb : (broadcastInDim S255 ![] bcast_S_S255 (Host.absf v : FVec Ideal S_ .f32) : FVec Ideal S255 .f32) = fun _ => absE (v ix0) := by
    funext y
    exact congrArg (fun z => absE (v z)) (funext fun a => a.elim0)
  unfold reached
  rw [hb]
  refine (Routing.reduce_sum _ (fun j => if j < n then 1 else 0) (fun j => ?_) reducesTo_S255_S_d0 h_S_).trans ?_
  · show (Ideal.cmp .oge (absE (v ix0)) (Ideal.ofBits .f32 ((Host.shli (addi (iotaInDim S255 32 0) (broadcastInDim S255 ![] bcast_S_S255 (constantI S_ 32 1#32)))
        (broadcastInDim S255 ![] bcast_S_S255 (constantI S_ 32 23#32)) : Vec Ideal S255 .i32) (ix1 j)))).zeroExtend 32 = _
    rw [count_word j]
    have hj := h j.val j.isLt
    by_cases hlt : j.val < n
    · have := hj.2 hlt
      unfold fieldVal at this
      simp [Ideal.cmp, this, hlt]
    · have : ¬ fieldVal (j.val + 1) ≤ absE (v ix0) := fun hc => hlt (hj.1 hc)
      unfold fieldVal at this
      simp [Ideal.cmp, this, hlt]
  · exact congrArg (BitVec.ofNat 32) (range_sum ⟨n, by omega⟩)

/-- The exponent field of the scale, and of the inverse scale, of a history whose largest entry over the code range reaches `n` powers. -/
def fieldN (n : ℕ) : ℕ := if n = 0 ∨ n = 255 then 127 else n + 1
def fieldInvN (n : ℕ) : ℕ := if n = 0 ∨ n = 255 then 127 else 253 - n

section Kernel
variable (h : FVec Ideal S16 .f32) (rcp : BitVec 32)

/-- The largest entry over the code range, in absolute value. -/
def ratio : EReal := absE ((mulf (histMax h) (constant (F := Ideal) S_ .f32 rcp) : FVec Ideal S_ .f32) ix0)

theorem pow2_at (e : Vec Ideal S_ .i32) : pow2 e ix0 = Ideal.ofBits .f32 (fieldOf (e ix0)) := by
  have he : e = fun _ => e ix0 := funext fun y => congrArg e (funext fun a => a.elim0)
  generalize e ix0 = z at he
  subst he
  unfold pow2 bitcastToFloat fieldOf
  exact (fun w => rfl : ∀ w : BitVec 32, FloatOps.ofBits (F := Ideal) .f32 w = Ideal.ofBits .f32 w) _

theorem expo_zero (h0 : (histMax h ix0 : EReal) = 0) : expo h rcp ix0 = 0#32 := by
  have hc : (cmpf .oeq (histMax h) (constant (F := Ideal) S_ .f32 0x00000000#32) : IVec S_ 1) ix0 = 1#1 := by
    show Ideal.cmp .oeq (histMax h ix0) (Ideal.ofBits .f32 0x00000000#32) = 1#1
    rw [Ideal.ofBits_zero_f32]
    simp [Ideal.cmp, h0]
  exact select_pos _ _ _ ix0 hc

theorem expo_of (h0 : ¬ (histMax h ix0 : EReal) = 0) (n : ℕ) (hn : n ≤ 255)
    (hj : ∀ j, j < 255 → (fieldVal (j + 1) ≤ ratio h rcp ↔ j < n)) : expo h rcp ix0 = expOf (BitVec.ofNat 32 n) := by
  have hc : ¬ (cmpf .oeq (histMax h) (constant (F := Ideal) S_ .f32 0x00000000#32) : IVec S_ 1) ix0 = 1#1 := by
    show ¬ Ideal.cmp .oeq (histMax h ix0) (Ideal.ofBits .f32 0x00000000#32) = 1#1
    rw [Ideal.ofBits_zero_f32]
    simp [Ideal.cmp, h0]
  have e := reached_eq (mulf (histMax h) (constant (F := Ideal) S_ .f32 rcp)) n hn hj
  rw [← e]
  exact select_neg _ _ _ ix0 hc

theorem scale_zero (h0 : (histMax h ix0 : EReal) = 0) : scaleOf h rcp ix0 = fieldVal 127 ∧ invOf h rcp ix0 = fieldVal 127 := by
  constructor
  · unfold scaleOf
    rw [pow2_at, expo_zero h rcp h0, field_word_zero.1]; rfl
  · unfold invOf
    rw [pow2_at, show (negi (expo h rcp) : Vec Ideal S_ .i32) ix0 = negOf (expo h rcp ix0) from rfl, expo_zero h rcp h0, field_word_zero.2]; rfl

theorem scale_of (h0 : ¬ (histMax h ix0 : EReal) = 0) (n : ℕ) (hn : n ≤ 255)
    (hj : ∀ j, j < 255 → (fieldVal (j + 1) ≤ ratio h rcp ↔ j < n)) :
    scaleOf h rcp ix0 = fieldVal (fieldN n) ∧ invOf h rcp ix0 = fieldVal (fieldInvN n) := by
  have w := field_words ⟨n, by omega⟩
  constructor
  · unfold scaleOf
    rw [pow2_at, expo_of h rcp h0 n hn hj]
    exact congrArg (Ideal.ofBits .f32) w.1
  · unfold invOf
    rw [pow2_at, show (negi (expo h rcp) : Vec Ideal S_ .i32) ix0 = negOf (expo h rcp ix0) from rfl, expo_of h rcp h0 n hn hj]
    exact congrArg (Ideal.ofBits .f32) w.2

end Kernel

/-! ## The reference's side -/

open Cert.ReferenceIdeal (S254) in
/-- The normal powers of two, from their words. -/
def powers (tab : Fin 254 → BitVec 32) : FVec Ideal S254 .f32 := fun i => Ideal.ofBits .f32 (tab (S254.rowMajor i))

/-- The smallest of the powers above a number, infinity if there is none. -/
def above (tab : Fin 254 → BitVec 32) (v : FVec Ideal S_ .f32) : FVec Ideal S_ .f32 :=
  Host.reduce FloatOps.minimumf (select (cmpf .ogt (powers tab) (broadcastInDim Cert.ReferenceIdeal.S254 ![] Cert.ReferenceIdeal.Gen.bcast_S_S254 v)) (powers tab)
    (broadcastInDim Cert.ReferenceIdeal.S254 ![] Cert.ReferenceIdeal.Gen.bcast_S_S254 (constant (F := Ideal) S_ .f32 0x7F800000#32)))
    (constant (F := Ideal) S_ .f32 0x7F800000#32) Cert.ReferenceIdeal.Gen.reducesTo_S254_S_d0 h_S_

/-- The reference's scale of a history. -/
def refScale (tab : Fin 254 → BitVec 32) (h : FVec Ideal S16 .f32) (rcp : BitVec 32) : FVec Ideal S_ .f32 :=
  select (ori (ori (cmpf .oeq (histMax h) (constant (F := Ideal) S_ .f32 0x00000000#32))
      (cmpf .olt (Host.absf (mulf (histMax h) (constant (F := Ideal) S_ .f32 rcp)) : FVec Ideal S_ .f32) (constant (F := Ideal) S_ .f32 0x00800000#32)))
      (cmpf .oeq (Host.absf (mulf (histMax h) (constant (F := Ideal) S_ .f32 rcp)) : FVec Ideal S_ .f32) (constant (F := Ideal) S_ .f32 0x7F800000#32)))
    (constant (F := Ideal) S_ .f32 0x3F800000#32) (above tab (Host.absf (mulf (histMax h) (constant (F := Ideal) S_ .f32 rcp))))

/-- The reference's inverse of a scale. -/
def refInv (s : FVec Ideal S_ .f32) : FVec Ideal S_ .f32 :=
  select (cmpf .olt s (constant (F := Ideal) S_ .f32 0x7F000000#32)) (Host.divf (constant (F := Ideal) S_ .f32 0x3F800000#32) s)
    (constant (F := Ideal) S_ .f32 0x00000000#32)

theorem above_eq (tab : Fin 254 → BitVec 32) (ht : ∀ k, tab k = BitVec.ofNat 32 (k.val + 1) <<< 23) (v : FVec Ideal S_ .f32) (n : ℕ) (hn : n ≤ 254)
    (hj : ∀ j, j < 255 → (fieldVal (j + 1) ≤ (v ix0 : EReal) ↔ j < n)) : (above tab v ix0 : EReal) = fieldVal (n + 1) := by
  have hb : (broadcastInDim Cert.ReferenceIdeal.S254 ![] Cert.ReferenceIdeal.Gen.bcast_S_S254 v : FVec Ideal Cert.ReferenceIdeal.S254 .f32) = fun _ => v ix0 := by
    funext y
    exact congrArg v (funext fun a => a.elim0)
  have hp : ∀ i, (powers tab i : EReal) = fieldVal ((Cert.ReferenceIdeal.S254.rowMajor i).val + 1) := fun i => congrArg (Ideal.ofBits .f32) (ht _)
  have hlt : ∀ i : Cert.ReferenceIdeal.S254.Idx, (Cert.ReferenceIdeal.S254.rowMajor i).val < 254 := fun i => (Cert.ReferenceIdeal.S254.rowMajor i).isLt
  unfold above
  rw [hb]
  refine eq_of_forall_le_iff fun c => ?_
  have e := Host.reduce_eq_fold (f := (FloatOps.minimumf : Ideal .f32 → Ideal .f32 → Ideal .f32))
    (select (cmpf .ogt (powers tab) (fun _ => v ix0)) (powers tab)
      (broadcastInDim Cert.ReferenceIdeal.S254 ![] Cert.ReferenceIdeal.Gen.bcast_S_S254 (constant (F := Ideal) S_ .f32 0x7F800000#32)))
    (constant (F := Ideal) S_ .f32 0x7F800000#32) Cert.ReferenceIdeal.Gen.reducesTo_S254_S_d0 h_S_ ix0
  refine (Eq.to_iff (congrArg (c ≤ ·) e)).trans ?_
  refine (Finset.le_fold_min (β := EReal) c).trans ?_
  have hs : ∀ i : Cert.ReferenceIdeal.S254.Idx, ((select (cmpf .ogt (powers tab) (fun _ => v ix0)) (powers tab)
      (broadcastInDim Cert.ReferenceIdeal.S254 ![] Cert.ReferenceIdeal.Gen.bcast_S_S254 (constant (F := Ideal) S_ .f32 0x7F800000#32)) : FVec Ideal Cert.ReferenceIdeal.S254 .f32) i : EReal)
      = if n ≤ (Cert.ReferenceIdeal.S254.rowMajor i).val then fieldVal ((Cert.ReferenceIdeal.S254.rowMajor i).val + 1) else ⊤ := fun i => by
    have hi := hj _ (lt_trans (hlt i) (by norm_num : 254 < 255))
    have hc : (cmpf .ogt (powers tab) (fun _ => v ix0) : IVec Cert.ReferenceIdeal.S254 1) i = 1#1 ↔ n ≤ (Cert.ReferenceIdeal.S254.rowMajor i).val := by
      show Ideal.cmp .ogt (powers tab i) (v ix0) = 1#1 ↔ _
      rw [show powers tab i = fieldVal ((Cert.ReferenceIdeal.S254.rowMajor i).val + 1) from hp i, ← not_lt, ← hi, not_le]
      unfold Ideal.cmp
      by_cases hh : (v ix0 : EReal) < fieldVal ((Cert.ReferenceIdeal.S254.rowMajor i).val + 1) <;> simp [hh]
    by_cases hh : n ≤ (Cert.ReferenceIdeal.S254.rowMajor i).val
    · rw [if_pos hh]; exact (select_pos _ _ _ i (hc.2 hh)).trans (hp i)
    · rw [if_neg hh]; exact (select_neg _ _ _ i (fun z => hh (hc.1 z))).trans fieldVal_top
  constructor
  · rintro ⟨-, H⟩
    rcases Nat.lt_or_ge n 254 with h | h
    · have := H (Cert.ReferenceIdeal.S254.rowMajor.symm ⟨n, h⟩) (Finset.mem_filter.mpr ⟨Finset.mem_univ _, funext fun a => a.elim0⟩)
      have := this.trans_eq (hs _)
      rwa [Equiv.apply_symm_apply, if_pos le_rfl] at this
    · rw [show n + 1 = 255 by omega, fieldVal_top]; exact le_top
  · intro H
    refine ⟨le_top.trans_eq fieldVal_top.symm, fun i _ => ?_⟩
    refine le_of_le_of_eq ?_ (hs i).symm
    split
    · next hh => exact H.trans (fieldVal_le (by omega) (by omega) (by have := hlt i; omega))
    · exact le_top

/-- One over a power of two is the power of the opposite exponent, or 0 below the normal range. -/
theorem refInv_eq (s : FVec Ideal S_ .f32) (n : ℕ) (h1 : 1 ≤ n) (hn : n ≤ 254) (hs : (s ix0 : EReal) = fieldVal (n + 1)) :
    (refInv s ix0 : EReal) = fieldVal (253 - n) := by
  have hc : (cmpf .olt s (constant (F := Ideal) S_ .f32 0x7F000000#32) : IVec S_ 1) ix0 = 1#1 ↔ n ≤ 252 := by
    show Ideal.cmp .olt (s ix0) (fieldVal 254) = 1#1 ↔ _
    rw [show s ix0 = fieldVal (n + 1) from hs]
    unfold Ideal.cmp
    rcases Nat.lt_or_ge 252 n with h | h
    · have := fieldVal_le (j := 254) (k := n + 1) (by omega) (by omega) (by omega)
      simp [not_lt.2 this, h]
    · have := fieldVal_lt (j := n + 1) (k := 254) (by omega) (by omega) (by omega)
      simp [this, h]
  rcases Nat.lt_or_ge 252 n with h | h
  · rw [show 253 - n = 0 by omega]
    exact select_neg _ _ _ ix0 (fun z => absurd (hc.1 z) (by omega))
  · refine (select_pos _ _ _ ix0 (hc.2 h)).trans ?_
    show Ideal.div (fieldVal 127) (s ix0) = _
    rw [show s ix0 = fieldVal (n + 1) from hs, fieldVal_one, fieldVal_of (by omega) (by omega), fieldVal_of (by omega) (by omega)]
    unfold Ideal.div
    have hne : ((2 : ℝ) ^ (((n + 1 : ℕ) : ℤ) - 127)) ≠ 0 := zpow_ne_zero _ (by norm_num)
    rw [if_neg (by exact_mod_cast hne), one_mul, ← EReal.coe_inv, ← zpow_neg]
    congr 2
    omega

theorem refInv_one (s : FVec Ideal S_ .f32) (hs : (s ix0 : EReal) = fieldVal 127) : (refInv s ix0 : EReal) = fieldVal 127 :=
  refInv_eq s 126 (by omega) (by omega) hs

theorem ref_scale_of (tab : Fin 254 → BitVec 32) (ht : ∀ k, tab k = BitVec.ofNat 32 (k.val + 1) <<< 23) (h : FVec Ideal S16 .f32) (rcp : BitVec 32) (n : ℕ) (hn : n ≤ 255)
    (hj : ∀ j, j < 255 → (fieldVal (j + 1) ≤ ratio h rcp ↔ j < n)) :
    (refScale tab h rcp ix0 : EReal) = if (histMax h ix0 : EReal) = 0 ∨ n = 0 ∨ n = 255 then fieldVal 127 else fieldVal (n + 1) := by
  have c0 : n = 0 ↔ ratio h rcp < fieldVal 1 := by
    rw [← not_le, hj 0 (by omega)]; omega
  have c1 : n = 255 ↔ ratio h rcp = ⊤ := by
    have := hj 254 (by omega)
    rw [show 254 + 1 = 255 from rfl, fieldVal_top, top_le_iff] at this
    rw [this]; omega
  have hc : (ori (ori (cmpf .oeq (histMax h) (constant (F := Ideal) S_ .f32 0x00000000#32))
      (cmpf .olt (Host.absf (mulf (histMax h) (constant (F := Ideal) S_ .f32 rcp)) : FVec Ideal S_ .f32) (constant (F := Ideal) S_ .f32 0x00800000#32)))
      (cmpf .oeq (Host.absf (mulf (histMax h) (constant (F := Ideal) S_ .f32 rcp)) : FVec Ideal S_ .f32) (constant (F := Ideal) S_ .f32 0x7F800000#32)) : IVec S_ 1) ix0 = 1#1
      ↔ (histMax h ix0 : EReal) = 0 ∨ n = 0 ∨ n = 255 := by
    show ((Ideal.cmp .oeq (histMax h ix0) (fieldVal 0) ||| Ideal.cmp .olt (ratio h rcp) (fieldVal 1)) ||| Ideal.cmp .oeq (ratio h rcp) (fieldVal 255)) = 1#1 ↔ _
    rw [c0, c1, fieldVal_zero, fieldVal_top]
    unfold Ideal.cmp
    by_cases g0 : (histMax h ix0 : EReal) = 0 <;> by_cases g1 : ratio h rcp < fieldVal 1 <;> by_cases g2 : ratio h rcp = ⊤ <;> simp [g0, g1, g2]
  by_cases g : (histMax h ix0 : EReal) = 0 ∨ n = 0 ∨ n = 255
  · rw [if_pos g]
    exact select_pos _ _ _ ix0 (hc.2 g)
  · rw [if_neg g]
    exact (select_neg _ _ _ ix0 (fun z => g (hc.1 z))).trans (above_eq tab ht _ n (by omega) hj)

/-- The two scales of a history agree, and so do the two inverse scales. -/
theorem scales_at (tab : Fin 254 → BitVec 32) (ht : ∀ k, tab k = BitVec.ofNat 32 (k.val + 1) <<< 23) (h : FVec Ideal S16 .f32) (rcp : BitVec 32) :
    (refScale tab h rcp ix0 : EReal) = scaleOf h rcp ix0 ∧ (refInv (refScale tab h rcp) ix0 : EReal) = invOf h rcp ix0 := by
  obtain ⟨n, hn, hj⟩ := threshold (ratio h rcp)
  have r := ref_scale_of tab ht h rcp n hn hj
  by_cases h0 : (histMax h ix0 : EReal) = 0
  · obtain ⟨k1, k2⟩ := scale_zero h rcp h0
    rw [if_pos (Or.inl h0)] at r
    exact ⟨r.trans k1.symm, (refInv_one _ r).trans k2.symm⟩
  · obtain ⟨k1, k2⟩ := scale_of h rcp h0 n hn hj
    unfold fieldN at k1
    unfold fieldInvN at k2
    by_cases g : n = 0 ∨ n = 255
    · rw [if_pos (Or.inr g)] at r
      rw [if_pos g] at k1 k2
      exact ⟨r.trans k1.symm, (refInv_one _ r).trans k2.symm⟩
    · rw [if_neg (by tauto)] at r
      rw [if_neg g] at k1 k2
      exact ⟨r.trans k1.symm, (refInv_eq _ n (by omega) (by omega) r).trans k2.symm⟩

theorem refScale_eq (tab : Fin 254 → BitVec 32) (ht : ∀ k, tab k = BitVec.ofNat 32 (k.val + 1) <<< 23) (h : FVec Ideal S16 .f32) (rcp : BitVec 32) :
    refScale tab h rcp = scaleOf h rcp := by
  funext y
  rw [show y = ix0 from funext fun a => a.elim0]
  exact (scales_at tab ht h rcp).1
theorem refInv_refScale (tab : Fin 254 → BitVec 32) (ht : ∀ k, tab k = BitVec.ofNat 32 (k.val + 1) <<< 23) (h : FVec Ideal S16 .f32) (rcp : BitVec 32) :
    refInv (refScale tab h rcp) = invOf h rcp := by
  funext y
  rw [show y = ix0 from funext fun a => a.elim0]
  exact (scales_at tab ht h rcp).2

end Cert.Value
-- ==== Proof.Value.RefBody.lean ====
/- What the reference's one call leaves: the codes of the three tensors and the three contractions of the codes. -/
module

public import proofs.«01_k».proof.Proof.Value.ScaleWord
public import proofs.«01_k».proof.Proof.Gen.ReferenceIdeal.Frame

@[expose] public section

set_option maxRecDepth 16384

noncomputable section

namespace Cert.Value

open Cert.ReferenceIdeal Cert.ReferenceIdeal.Gen Idealize.ShloMosaic Idealize.ShloMosaic.TcCoe Idealize.SL.Sem
open Idealize.ShloMosaic.Pipeline (Dat)

section Point
variable (sx sw sd : FVec Ideal S1x1 .f32) (x : FVec Ideal S4096x6656 .bf16) (w : FVec Ideal S6656x16384 .f32) (d : FVec Ideal S4096x16384 .bf16)

/-- The three quantisers of the reference body are the codes. -/
theorem ref_pay_x : k0_pay4 (F := Ideal) x sx = codesX x (sx (ix2 0 0)) := by
  funext i
  idx_vars i
  unfold k0_pay4 codesX clip4
  pointwise
theorem ref_pay_w : k0_pay5 (F := Ideal) w sw = codesW w (sw (ix2 0 0)) := by
  funext i
  idx_vars i
  unfold k0_pay5 codesW clip4
  pointwise
theorem ref_pay_d : k0_pay6 (F := Ideal) d sd = codesD d (sd (ix2 0 0)) := by
  funext i
  idx_vars i
  unfold k0_pay6 codesD clip5
  pointwise

/-- The three contractions of the reference body, before their output scales. -/
def sumY (xc : FVec Ideal S4096x6656 .fp8e4m3) (wc : FVec Ideal S6656x16384 .fp8e4m3) : FVec Ideal S4096x16384 .f32 :=
  fun i => ∑ k : Fin 6656, xc (ix2 (i 0) k) * wc (ix2 k (i 1))
def sumDx (dc : FVec Ideal S4096x16384 .fp8e5m2) (wc : FVec Ideal S6656x16384 .fp8e4m3) : FVec Ideal S4096x6656 .f32 :=
  fun i => ∑ k : Fin 16384, dc (ix2 (i 0) k) * wc (ix2 (i 1) k)
def sumDw (xc : FVec Ideal S4096x6656 .fp8e4m3) (dc : FVec Ideal S4096x16384 .fp8e5m2) : FVec Ideal S6656x16384 .f32 :=
  fun i => ∑ k : Fin 4096, xc (ix2 k (i 0)) * dc (ix2 k (i 1))

theorem ref_pay_y (xc : FVec Ideal S4096x6656 .fp8e4m3) (wc : FVec Ideal S6656x16384 .fp8e4m3) : k0_pay1 (F := Ideal) xc wc = sumY xc wc := by
  funext i
  idx_vars i
  unfold k0_pay1 sumY
  pointwise
theorem ref_pay_dx (wc : FVec Ideal S6656x16384 .fp8e4m3) (dc : FVec Ideal S4096x16384 .fp8e5m2) : k0_pay2 (F := Ideal) wc dc = sumDx dc wc := by
  funext i
  idx_vars i
  unfold k0_pay2 sumDx
  pointwise
theorem ref_pay_dw (xc : FVec Ideal S4096x6656 .fp8e4m3) (dc : FVec Ideal S4096x16384 .fp8e5m2) : k0_pay3 (F := Ideal) xc dc = sumDw xc dc := by
  funext i
  idx_vars i
  unfold k0_pay3 sumDw
  pointwise

end Point

variable (m : (ℓ : Loc nD τ sig) → Buf (Elt Ideal) ℓ) (ρ : Dev nD → PrngReg) (c : Dev nD)

/-- The one grid point. -/
abbrev pt : Fin cfg0.N := ⟨0, by decide⟩

/-- Every input window sits at the origin. -/
theorem ref_idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The six inputs of the one point are the whole arrays. -/
theorem ref_in0 (t : Fin cfg0.N) : (iblk m c 0 t : FVec Ideal S1x1 .f32) = V m c main_v51 := by
  funext y; idx_vars y; blk_point [iblk, ref_idx t]
theorem ref_in1 (t : Fin cfg0.N) : (iblk m c 1 t : FVec Ideal S1x1 .f32) = V m c main_v52 := by
  funext y; idx_vars y; blk_point [iblk, ref_idx t]
theorem ref_in2 (t : Fin cfg0.N) : (iblk m c 2 t : FVec Ideal S1x1 .f32) = V m c main_v53 := by
  funext y; idx_vars y; blk_point [iblk, ref_idx t]
theorem ref_in3 (t : Fin cfg0.N) : (iblk m c 3 t : FVec Ideal S4096x6656 .bf16) = V m c main_v54 := by
  funext y; idx_vars y; blk_point [iblk, ref_idx t]
theorem ref_in4 (t : Fin cfg0.N) : (iblk m c 4 t : FVec Ideal S6656x16384 .f32) = V m c main_arg1 := by
  funext y; idx_vars y; blk_point [iblk, ref_idx t]
theorem ref_in5 (t : Fin cfg0.N) : (iblk m c 5 t : FVec Ideal S4096x16384 .bf16) = V m c main_v55 := by
  funext y; idx_vars y; blk_point [iblk, ref_idx t]

/-- The three codes as the body forms them, from the arrays the call finds. -/
abbrev bodyX : FVec Ideal S4096x6656 .fp8e4m3 := codesX (V m c main_v54) ((V m c main_v51 : FVec Ideal S1x1 .f32) (ix2 0 0))
abbrev bodyW : FVec Ideal S6656x16384 .fp8e4m3 := codesW (V m c main_arg1) ((V m c main_v52 : FVec Ideal S1x1 .f32) (ix2 0 0))
abbrev bodyD : FVec Ideal S4096x16384 .fp8e5m2 := codesD (V m c main_v55) ((V m c main_v53 : FVec Ideal S1x1 .f32) (ix2 0 0))

theorem ref_point_x (t : Fin cfg0.N) : k0_pay4 (F := Ideal) (iblk m c 3 t) (iblk m c 0 t) = bodyX m c := by
  rw [ref_in3, ref_in0]; exact ref_pay_x _ _
theorem ref_point_w (t : Fin cfg0.N) : k0_pay5 (F := Ideal) (iblk m c 4 t) (iblk m c 1 t) = bodyW m c := by
  rw [ref_in4, ref_in1]; exact ref_pay_w _ _
theorem ref_point_d (t : Fin cfg0.N) : k0_pay6 (F := Ideal) (iblk m c 5 t) (iblk m c 2 t) = bodyD m c := by
  rw [ref_in5, ref_in2]; exact ref_pay_d _ _

theorem ref_all_x (t : Fin cfg0.N) : k0_pay7 (F := Ideal) (iblk m c 0 t) (iblk m c 1 t) (iblk m c 2 t) (iblk m c 3 t) (iblk m c 4 t) (iblk m c 5 t) = bodyX m c := by
  unfold k0_pay7
  frame_out
  exact ref_point_x m c t
theorem ref_all_w (t : Fin cfg0.N) : k0_pay8 (F := Ideal) (iblk m c 0 t) (iblk m c 1 t) (iblk m c 2 t) (iblk m c 3 t) (iblk m c 4 t) (iblk m c 5 t) = bodyW m c := by
  unfold k0_pay8
  frame_out
  exact ref_point_w m c t
theorem ref_all_d (t : Fin cfg0.N) : k0_pay9 (F := Ideal) (iblk m c 0 t) (iblk m c 1 t) (iblk m c 2 t) (iblk m c 3 t) (iblk m c 4 t) (iblk m c 5 t) = bodyD m c := by
  unfold k0_pay9
  frame_out
  exact ref_point_d m c t

theorem ref_xc : (dats m 0 c).arrAt 6 cfg0.N = bodyX m c := by
  refine (dats m 0 c).arrAt_eq_of_after_last 6 pt (by decide +kernel) _ fun j => ?_
  blk_simp
  rw [after0_6]
  frame_out
  rw [ref_point_x]
theorem ref_wc : (dats m 0 c).arrAt 7 cfg0.N = bodyW m c := by
  refine (dats m 0 c).arrAt_eq_of_after_last 7 pt (by decide +kernel) _ fun j => ?_
  blk_simp
  rw [after0_7]
  frame_out
  rw [ref_point_w]
theorem ref_dc : (dats m 0 c).arrAt 8 cfg0.N = bodyD m c := by
  refine (dats m 0 c).arrAt_eq_of_after_last 8 pt (by decide +kernel) _ fun j => ?_
  blk_simp
  rw [after0_8]
  frame_out
  rw [ref_all_d]
theorem ref_sum_y : (dats m 0 c).arrAt 9 cfg0.N = sumY (bodyX m c) (bodyW m c) := by
  refine (dats m 0 c).arrAt_eq_of_after_last 9 pt (by decide +kernel) _ fun j => ?_
  blk_simp
  rw [after0_9]
  frame_out
  rw [ref_all_x, ref_all_w, ref_pay_y]
theorem ref_sum_dx : (dats m 0 c).arrAt 10 cfg0.N = sumDx (bodyD m c) (bodyW m c) := by
  refine (dats m 0 c).arrAt_eq_of_after_last 10 pt (by decide +kernel) _ fun j => ?_
  blk_simp
  rw [after0_10]
  frame_out
  rw [ref_all_d, ref_all_w, ref_pay_dx]
theorem ref_sum_dw : (dats m 0 c).arrAt 11 cfg0.N = sumDw (bodyX m c) (bodyD m c) := by
  refine (dats m 0 c).arrAt_eq_of_after_last 11 pt (by decide +kernel) _ fun j => ?_
  blk_simp
  rw [after0_11]
  frame_out
  rw [ref_all_x, ref_all_d, ref_pay_dw]

end Cert.Value
-- ==== Proof.Value.RefHost.lean ====
/- What the reference's run leaves in its twelve result buffers: the same functions of the arguments. -/
module

public import proofs.«01_k».proof.Proof.Value.RefBody
public import Idealize.ShloMosaic.Lib.StableHlo.RunRead

@[expose] public section

set_option maxRecDepth 65536

noncomputable section

namespace Cert.Value

open Cert.ReferenceIdeal Cert.ReferenceIdeal.Gen Idealize.ShloMosaic Idealize.ShloMosaic.TcCoe Idealize.SL.Sem

section Reads
variable (U : Valuation τ sig (Elt Ideal))

/-- The tables of powers are the words of fields 1 to 254. -/
theorem ref_tab0 : ∀ k, lit0 k = BitVec.ofNat 32 (k.val + 1) <<< 23 := by decide +kernel
theorem ref_tab1 : ∀ k, lit1 k = BitVec.ofNat 32 (k.val + 1) <<< 23 := by decide +kernel
theorem ref_tab2 : ∀ k, lit2 k = BitVec.ofNat 32 (k.val + 1) <<< 23 := by decide +kernel
theorem ref_rd_xs : StableHlo.after hostOps0 U (Proc.devRef .tc main_v13) = refScale lit0 (U (Proc.devRef .tc main_arg3)) rcp4 := by
  after_reads_simp; rfl
theorem ref_rd_ws : StableHlo.after hostOps0 U (Proc.devRef .tc main_v30) = refScale lit1 (U (Proc.devRef .tc main_arg4)) rcp4 := by
  after_reads_simp; rfl
theorem ref_rd_ds : StableHlo.after hostOps0 U (Proc.devRef .tc main_v47) = refScale lit2 (U (Proc.devRef .tc main_arg5)) rcp5 := by
  after_reads_simp; rfl
theorem ref_rd_xi : StableHlo.after hostOps0 U (Proc.devRef .tc main_v51) = shapeCast S1x1 (refInv (refScale lit0 (U (Proc.devRef .tc main_arg3)) rcp4)) shapeCasts_S_S1x1 := by
  after_reads_simp; rfl
theorem ref_rd_wi : StableHlo.after hostOps0 U (Proc.devRef .tc main_v52) = shapeCast S1x1 (refInv (refScale lit1 (U (Proc.devRef .tc main_arg4)) rcp4)) shapeCasts_S_S1x1 := by
  after_reads_simp; rfl
theorem ref_rd_di : StableHlo.after hostOps0 U (Proc.devRef .tc main_v53) = shapeCast S1x1 (refInv (refScale lit2 (U (Proc.devRef .tc main_arg5)) rcp5)) shapeCasts_S_S1x1 := by
  after_reads_simp; rfl
theorem ref_rd_x : StableHlo.after hostOps0 U (Proc.devRef .tc main_v54) = shapeCast S4096x6656 (U (Proc.devRef .tc main_arg0)) shapeCasts_S2x2048x6656_S4096x6656 := by
  after_reads_simp; rfl
theorem ref_rd_d : StableHlo.after hostOps0 U (Proc.devRef .tc main_v55) = shapeCast S4096x16384 (U (Proc.devRef .tc main_arg2)) shapeCasts_S2x2048x16384_S4096x16384 := by
  after_reads_simp; rfl

theorem ref_rd_y : StableHlo.after hostOps1 U (Proc.devRef .tc main_v68) = shapeCast S2x2048x16384 (truncf .bf16 (mulf (U (Proc.devRef .tc main_v56_3))
    (broadcastInDim S4096x16384 ![] bcast_S_S4096x16384 (mulf (U (Proc.devRef .tc main_v13)) (U (Proc.devRef .tc main_v30)) : FVec Ideal S_ .f32)) : FVec Ideal S4096x16384 .f32) bitsLt_bf16_f32) shapeCasts_S4096x16384_S2x2048x16384 := by
  after_reads_simp; rfl
theorem ref_rd_dx : StableHlo.after hostOps1 U (Proc.devRef .tc main_v69) = shapeCast S2x2048x6656 (truncf .bf16 (mulf (U (Proc.devRef .tc main_v56_4))
    (broadcastInDim S4096x6656 ![] bcast_S_S4096x6656 (mulf (U (Proc.devRef .tc main_v47)) (U (Proc.devRef .tc main_v30)) : FVec Ideal S_ .f32)) : FVec Ideal S4096x6656 .f32) bitsLt_bf16_f32) shapeCasts_S4096x6656_S2x2048x6656 := by
  after_reads_simp; rfl
theorem ref_rd_dw : StableHlo.after hostOps1 U (Proc.devRef .tc main_v67) = (mulf (U (Proc.devRef .tc main_v56_5))
    (broadcastInDim S6656x16384 ![] bcast_S_S6656x16384 (mulf (U (Proc.devRef .tc main_v13)) (U (Proc.devRef .tc main_v47)) : FVec Ideal S_ .f32)) : FVec Ideal S6656x16384 .f32) := by
  after_reads_simp
theorem ref_rd_xc : StableHlo.after hostOps1 U (Proc.devRef .tc main_v87) = shapeCast S2x2048x6656 (U (Proc.devRef .tc main_v56_0)) shapeCasts_S4096x6656_S2x2048x6656 := by
  after_reads_simp; rfl
theorem ref_rd_dc : StableHlo.after hostOps1 U (Proc.devRef .tc main_v88) = shapeCast S2x2048x16384 (U (Proc.devRef .tc main_v56_2)) shapeCasts_S4096x16384_S2x2048x16384 := by
  after_reads_simp; rfl
theorem ref_rd_hist_x : StableHlo.after hostOps1 U (Proc.devRef .tc main_v75) = histNext (U (Proc.devRef .tc main_arg3))
    (extf .f32 (Host.reduce FloatOps.maximumf (Host.absf (U (Proc.devRef .tc main_arg0)) : FVec Ideal S2x2048x6656 .bf16) (constant (F := Ideal) S_ .bf16 0xFF80#16) reducesTo_S2x2048x6656_S_d0_1_2 h_S_) bitsLt_bf16_f32) := by
  rw [histNext_eq]
  after_reads_simp
  refine Eq.trans (b := joined (StableHlo.upto hostOps1 U 19 (Proc.devRef .tc main_v73)) (StableHlo.upto hostOps1 U 19 (Proc.devRef .tc main_v74))) rfl ?_
  refine congrArg₂ joined ?_ ?_ <;> after_reads_simp
theorem ref_rd_hist_w : StableHlo.after hostOps1 U (Proc.devRef .tc main_v80) = histNext (U (Proc.devRef .tc main_arg4))
    (Host.reduce FloatOps.maximumf (Host.absf (U (Proc.devRef .tc main_arg1)) : FVec Ideal S6656x16384 .f32) (constant (F := Ideal) S_ .f32 0xFF800000#32) reducesTo_S6656x16384_S_d0_1 h_S_) := by
  rw [histNext_eq]
  after_reads_simp
  refine Eq.trans (b := joined (StableHlo.upto hostOps1 U 25 (Proc.devRef .tc main_v78)) (StableHlo.upto hostOps1 U 25 (Proc.devRef .tc main_v79))) rfl ?_
  refine congrArg₂ joined ?_ ?_ <;> after_reads_simp
theorem ref_rd_hist_dy : StableHlo.after hostOps1 U (Proc.devRef .tc main_v86) = histNext (U (Proc.devRef .tc main_arg5))
    (extf .f32 (Host.reduce FloatOps.maximumf (Host.absf (U (Proc.devRef .tc main_arg2)) : FVec Ideal S2x2048x16384 .bf16) (constant (F := Ideal) S_ .bf16 0xFF80#16) reducesTo_S2x2048x16384_S_d0_1_2 h_S_) bitsLt_bf16_f32) := by
  rw [histNext_eq]
  after_reads_simp
  refine Eq.trans (b := joined (StableHlo.upto hostOps1 U 32 (Proc.devRef .tc main_v84)) (StableHlo.upto hostOps1 U 32 (Proc.devRef .tc main_v85))) rfl ?_
  refine congrArg₂ joined ?_ ?_ <;> after_reads_simp
theorem ref_keep_xs : StableHlo.after hostOps1 U (Proc.devRef .tc main_v13) = U (Proc.devRef .tc main_v13) := by
  after_reads_simp
theorem ref_keep_ws : StableHlo.after hostOps1 U (Proc.devRef .tc main_v30) = U (Proc.devRef .tc main_v30) := by
  after_reads_simp
theorem ref_keep_ds : StableHlo.after hostOps1 U (Proc.devRef .tc main_v47) = U (Proc.devRef .tc main_v47) := by
  after_reads_simp

end Reads

end Cert.Value
-- ==== Proof.Value.RefRead.lean ====
/- The twelve result buffers at the end of the reference's run, read off its host operations and its one call. -/
module

public import proofs.«01_k».proof.Proof.Value.RefHost

@[expose] public section

set_option maxRecDepth 16384

noncomputable section

namespace Cert.Value

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg) (c : Dev nD)

/-- The six arguments as launched. -/
abbrev R0 : FVec Ideal S2x2048x6656 .bf16 := m ((c : Thread nD τ).loc main_arg0)
abbrev R1 : FVec Ideal S6656x16384 .f32 := m ((c : Thread nD τ).loc main_arg1)
abbrev R2 : FVec Ideal S2x2048x16384 .bf16 := m ((c : Thread nD τ).loc main_arg2)
abbrev R3 : FVec Ideal S16 .f32 := m ((c : Thread nD τ).loc main_arg3)
abbrev R4 : FVec Ideal S16 .f32 := m ((c : Thread nD τ).loc main_arg4)
abbrev R5 : FVec Ideal S16 .f32 := m ((c : Thread nD τ).loc main_arg5)

/-- What the call finds is what the host operations before it leave. -/
theorem V0_eq : V0 m c = StableHlo.after hostOps0 (fun b => m (c, b)) := by
  show StableHlo.after (List.flatten [hostOps0]) _ = _
  simp only [List.flatten_cons, List.flatten_nil, List.append_nil]

/-- The buffers the call and the later operations read: the three scales, the three inverse scales, the two flattened tensors. -/
theorem V0_xs : V0 m c (Proc.devRef .tc main_v13) = scaleOf (R3 m c) rcp4 := by
  rw [V0_eq]; exact (ref_rd_xs _).trans (refScale_eq _ ref_tab0 _ _)
theorem V0_ws : V0 m c (Proc.devRef .tc main_v30) = scaleOf (R4 m c) rcp4 := by
  rw [V0_eq]; exact (ref_rd_ws _).trans (refScale_eq _ ref_tab1 _ _)
theorem V0_ds : V0 m c (Proc.devRef .tc main_v47) = scaleOf (R5 m c) rcp5 := by
  rw [V0_eq]; exact (ref_rd_ds _).trans (refScale_eq _ ref_tab2 _ _)
theorem V0_xi : V0 m c (Proc.devRef .tc main_v51) = shapeCast S1x1 (invOf (R3 m c) rcp4) shapeCasts_S_S1x1 := by
  rw [V0_eq]; exact (ref_rd_xi _).trans (congrArg (fun v => shapeCast S1x1 (v : FVec Ideal S_ .f32) shapeCasts_S_S1x1) (refInv_refScale _ ref_tab0 _ _))
theorem V0_wi : V0 m c (Proc.devRef .tc main_v52) = shapeCast S1x1 (invOf (R4 m c) rcp4) shapeCasts_S_S1x1 := by
  rw [V0_eq]; exact (ref_rd_wi _).trans (congrArg (fun v => shapeCast S1x1 (v : FVec Ideal S_ .f32) shapeCasts_S_S1x1) (refInv_refScale _ ref_tab1 _ _))
theorem V0_di : V0 m c (Proc.devRef .tc main_v53) = shapeCast S1x1 (invOf (R5 m c) rcp5) shapeCasts_S_S1x1 := by
  rw [V0_eq]; exact (ref_rd_di _).trans (congrArg (fun v => shapeCast S1x1 (v : FVec Ideal S_ .f32) shapeCasts_S_S1x1) (refInv_refScale _ ref_tab2 _ _))
theorem V0_x : V0 m c (Proc.devRef .tc main_v54) = flatX (R0 m c) := by
  rw [V0_eq]; exact ref_rd_x _
theorem V0_d : V0 m c (Proc.devRef .tc main_v55) = flatD (R2 m c) := by
  rw [V0_eq]; exact ref_rd_d _

/-- A one-element array is its one entry. -/
theorem one_at (v : FVec Ideal S_ .f32) : (shapeCast S1x1 v shapeCasts_S_S1x1 : FVec Ideal S1x1 .f32) (ix2 0 0) = v ix0 := by
  pointwise

theorem bodyX_eq : bodyX m c = allX (R0 m c) (R3 m c) := by
  unfold bodyX
  rw [show V m c main_v54 = flatX (R0 m c) from V0_x m c, show V m c main_v51 = _ from V0_xi m c, one_at]; rfl
theorem bodyW_eq : bodyW m c = allW (R1 m c) (R4 m c) := by
  unfold bodyW
  rw [show V m c main_arg1 = R1 m c from V_main_arg1 m c, show V m c main_v52 = _ from V0_wi m c, one_at]; rfl
theorem bodyD_eq : bodyD m c = allD (R2 m c) (R5 m c) := by
  unfold bodyD
  rw [show V m c main_v55 = flatD (R2 m c) from V0_d m c, show V m c main_v53 = _ from V0_di m c, one_at]; rfl

/-- The buffers as the operations after the call find them. -/
abbrev T : Valuation τ sig (Elt Ideal) := Pipeline.withArrays spec0 c (V0 m c) fun w => (dats m 0 c).arrAt w cfg0.N

/-- The buffers at the end of the run. -/
abbrev E (b : Ref sig .tc) : Buf (Elt Ideal) ((c : Thread nD τ).loc b) := Pipeline.afterTail₀ cfgs (dats m) 0 (V0 m) [hostOps1] c b

theorem E_eq (b : Ref sig .tc) : E m c b = StableHlo.after hostOps1 (T m c) (Proc.devRef .tc b) := by
  unfold E Pipeline.afterTail₀
  simp only [List.flatten_cons, List.flatten_nil, List.append_nil]

theorem T_arr (w : Fin cfg0.W) : T m c (Proc.devRef .tc (Pipeline.arrRef spec0 w)) = (dats m 0 c).arrAt w cfg0.N :=
  Pipeline.withArrays_arr spec0 (by decide) c _ _ w
theorem T_of (b : Ref sig .tc) (h : ∀ w, Pipeline.arrRef spec0 w ≠ b) : T m c (Proc.devRef .tc b) = V0 m c (Proc.devRef .tc b) :=
  Pipeline.withArrays_of_ne spec0 c (V0 m c) _ b h

theorem T_xs : T m c (Proc.devRef .tc main_v13) = scaleOf (R3 m c) rcp4 := (T_of m c main_v13 (by decide)).trans (V0_xs m c)
theorem T_ws : T m c (Proc.devRef .tc main_v30) = scaleOf (R4 m c) rcp4 := (T_of m c main_v30 (by decide)).trans (V0_ws m c)
theorem T_ds : T m c (Proc.devRef .tc main_v47) = scaleOf (R5 m c) rcp5 := (T_of m c main_v47 (by decide)).trans (V0_ds m c)
theorem T_0 : T m c (Proc.devRef .tc main_arg0) = R0 m c := (T_of m c main_arg0 (by decide)).trans (V_main_arg0 m c)
theorem T_1 : T m c (Proc.devRef .tc main_arg1) = R1 m c :=
  (T_arr m c 4).trans (((dats m 0 c).arrAt_in 4 rfl _).trans ((A_eq m c 4).trans (V_main_arg1 m c)))
theorem T_2 : T m c (Proc.devRef .tc main_arg2) = R2 m c := (T_of m c main_arg2 (by decide)).trans (V_main_arg2 m c)
theorem T_3 : T m c (Proc.devRef .tc main_arg3) = R3 m c := (T_of m c main_arg3 (by decide)).trans (V_main_arg3 m c)
theorem T_4 : T m c (Proc.devRef .tc main_arg4) = R4 m c := (T_of m c main_arg4 (by decide)).trans (V_main_arg4 m c)
theorem T_5 : T m c (Proc.devRef .tc main_arg5) = R5 m c := (T_of m c main_arg5 (by decide)).trans (V_main_arg5 m c)
theorem T_xc : T m c (Proc.devRef .tc main_v56_0) = allX (R0 m c) (R3 m c) := (T_arr m c 6).trans ((ref_xc m c).trans (bodyX_eq m c))
theorem T_wc : T m c (Proc.devRef .tc main_v56_1) = allW (R1 m c) (R4 m c) := (T_arr m c 7).trans ((ref_wc m c).trans (bodyW_eq m c))
theorem T_dc : T m c (Proc.devRef .tc main_v56_2) = allD (R2 m c) (R5 m c) := (T_arr m c 8).trans ((ref_dc m c).trans (bodyD_eq m c))
theorem T_y : T m c (Proc.devRef .tc main_v56_3) = sumY (allX (R0 m c) (R3 m c)) (allW (R1 m c) (R4 m c)) := by
  rw [← bodyX_eq, ← bodyW_eq]; exact (T_arr m c 9).trans (ref_sum_y m c)
theorem T_dx : T m c (Proc.devRef .tc main_v56_4) = sumDx (allD (R2 m c) (R5 m c)) (allW (R1 m c) (R4 m c)) := by
  rw [← bodyD_eq, ← bodyW_eq]; exact (T_arr m c 10).trans (ref_sum_dx m c)
theorem T_dw : T m c (Proc.devRef .tc main_v56_5) = sumDw (allX (R0 m c) (R3 m c)) (allD (R2 m c) (R5 m c)) := by
  rw [← bodyX_eq, ← bodyD_eq]; exact (T_arr m c 11).trans (ref_sum_dw m c)

/-- Scaling a contraction by one number and rounding it is the scaled product of the layer. -/
theorem scaled_y (xc : FVec Ideal S4096x6656 .fp8e4m3) (wc : FVec Ideal S6656x16384 .fp8e4m3) (s : FVec Ideal S_ .f32) :
    truncf .bf16 (mulf (sumY xc wc) (broadcastInDim S4096x16384 ![] bcast_S_S4096x16384 s) : FVec Ideal S4096x16384 .f32) bitsLt_bf16_f32 = fwd xc wc (s ix0) := by
  funext i
  idx_vars i
  unfold fwd
  pointwise
  unfold sumY
  pointwise
theorem scaled_dx (dc : FVec Ideal S4096x16384 .fp8e5m2) (wc : FVec Ideal S6656x16384 .fp8e4m3) (s : FVec Ideal S_ .f32) :
    truncf .bf16 (mulf (sumDx dc wc) (broadcastInDim S4096x6656 ![] bcast_S_S4096x6656 s) : FVec Ideal S4096x6656 .f32) bitsLt_bf16_f32 = gradX dc wc (s ix0) := by
  funext i
  idx_vars i
  unfold gradX
  pointwise
  unfold sumDx
  pointwise
theorem scaled_dw (xc : FVec Ideal S4096x6656 .fp8e4m3) (dc : FVec Ideal S4096x16384 .fp8e5m2) (s : FVec Ideal S_ .f32) :
    (mulf (sumDw xc dc) (broadcastInDim S6656x16384 ![] bcast_S_S6656x16384 s) : FVec Ideal S6656x16384 .f32) = gradW xc dc (s ix0) := by
  funext i
  idx_vars i
  unfold gradW
  pointwise
  unfold sumDw
  pointwise

/-- Widening a bfloat16 number changes no value. -/
theorem widened (a : FVec Ideal S_ .bf16) (b : FVec Ideal S_ .f32) (h : (a : S_.Idx → EReal) = b) : extf .f32 a bitsLt_bf16_f32 = b := h

/-- The twelve result buffers at the end of the reference's run. -/
theorem R_y : E m c main_v68 = resY (R0 m c) (R1 m c) (R3 m c) (R4 m c) := by
  rw [E_eq]
  refine (ref_rd_y (T m c)).trans ?_
  rw [T_y, T_xs, T_ws, scaled_y]; rfl
theorem R_dx : E m c main_v69 = resDx (R1 m c) (R2 m c) (R4 m c) (R5 m c) := by
  rw [E_eq]
  refine (ref_rd_dx (T m c)).trans ?_
  rw [T_dx, T_ds, T_ws, scaled_dx]; rfl
theorem R_dw : E m c main_v67 = resDw (R0 m c) (R2 m c) (R3 m c) (R5 m c) := by
  rw [E_eq]
  refine (ref_rd_dw (T m c)).trans ?_
  rw [T_dw, T_xs, T_ds, scaled_dw]; rfl
theorem R_hist_x : E m c main_v75 = resHistX (R0 m c) (R3 m c) := by
  rw [E_eq]
  refine (ref_rd_hist_x (T m c)).trans ?_
  rw [T_0, T_3]
  exact congrArg (histNext _) (widened _ _ (hostMax_abs (R0 m c) _ _ _ fun _ => negInf_bf16))
theorem R_hist_w : E m c main_v80 = resHistW (R1 m c) (R4 m c) := by
  rw [E_eq]
  refine (ref_rd_hist_w (T m c)).trans ?_
  rw [T_1, T_4]
  exact congrArg (histNext _) (hostMax_abs (R1 m c) _ _ _ fun _ => negInf_f32)
theorem R_hist_dy : E m c main_v86 = resHistD (R2 m c) (R5 m c) := by
  rw [E_eq]
  refine (ref_rd_hist_dy (T m c)).trans ?_
  rw [T_2, T_5]
  exact congrArg (histNext _) (widened _ _ (hostMax_abs (R2 m c) _ _ _ fun _ => negInf_bf16))
theorem R_xc : E m c main_v87 = resXc (R0 m c) (R3 m c) := by
  rw [E_eq]
  refine (ref_rd_xc (T m c)).trans ?_
  rw [T_xc]; rfl
theorem R_dc : E m c main_v88 = resDc (R2 m c) (R5 m c) := by
  rw [E_eq]
  refine (ref_rd_dc (T m c)).trans ?_
  rw [T_dc]; rfl
theorem R_wc : (dats m 0 c).arrAt 7 cfg0.N = allW (R1 m c) (R4 m c) := (ref_wc m c).trans (bodyW_eq m c)
theorem R_xs : E m c main_v13 = scaleOf (R3 m c) rcp4 := (E_eq m c _).trans ((ref_keep_xs (T m c)).trans (T_xs m c))
theorem R_ws : E m c main_v30 = scaleOf (R4 m c) rcp4 := (E_eq m c _).trans ((ref_keep_ws (T m c)).trans (T_ws m c))
theorem R_ds : E m c main_v47 = scaleOf (R5 m c) rcp5 := (E_eq m c _).trans ((ref_keep_ds (T m c)).trans (T_ds m c))

end Cert.Value
-- ==== Proof.lean ====
module

public import proofs.«01_k».proof.Defs
public import proofs.«01_k».proof.Proof.KernelRun.Frame
public import proofs.«01_k».proof.Proof.KernelIdealRun.Frame
public import proofs.«01_k».proof.Proof.Gen.ReferenceIdeal.Frame
public import proofs.«01_k».proof.Proof.Value.KernelRead
public import proofs.«01_k».proof.Proof.Value.RefRead

@[expose] public section

set_option maxRecDepth 16384

noncomputable section

namespace Cert.Proof

open Idealize.ShloMosaic Idealize.ShloMosaic.TcCoe Idealize.SL.Sem
open Cert.Value

section Kernel
open Cert.KernelIdeal Cert.KernelIdeal.Gen

/-- The kernel runs, and ends with the twelve results as the stated functions of its arguments, which are unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v103) = resY (K0 m c) (K1 m c) (K3 m c) (K4 m c)
      ∧ r.2.mem ((c.tc : Thread nD τ).loc main_v104) = resDx (K1 m c) (K2 m c) (K4 m c) (K5 m c)
      ∧ r.2.mem ((c.tc : Thread nD τ).loc main_v101_0) = resDw (K0 m c) (K2 m c) (K3 m c) (K5 m c)
      ∧ r.2.mem ((c.tc : Thread nD τ).loc main_v108) = resHistX (K0 m c) (K3 m c)
      ∧ r.2.mem ((c.tc : Thread nD τ).loc main_v112) = resHistW (K1 m c) (K4 m c)
      ∧ r.2.mem ((c.tc : Thread nD τ).loc main_v116) = resHistD (K2 m c) (K5 m c)
      ∧ r.2.mem ((c.tc : Thread nD τ).loc main_v117) = resXc (K0 m c) (K3 m c)
      ∧ r.2.mem ((c.tc : Thread nD τ).loc main_v25) = scaleOf (K3 m c) rcp4
      ∧ r.2.mem ((c.tc : Thread nD τ).loc main_v100_1) = allW (K1 m c) (K4 m c)
      ∧ r.2.mem ((c.tc : Thread nD τ).loc main_v54) = scaleOf (K4 m c) rcp4
      ∧ r.2.mem ((c.tc : Thread nD τ).loc main_v118) = resDc (K2 m c) (K5 m c)
      ∧ r.2.mem ((c.tc : Thread nD τ).loc main_v83) = scaleOf (K5 m c) rcp5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
    ⟨(h.1 c _ (mem_uc main_v103 (by decide))).trans (K_y m g c),
      (h.1 c _ (mem_uc main_v104 (by decide))).trans (K_dx m g c),
      (h.1 c _ (mem_uc main_v101_0 (by decide))).trans (K_dw m g c),
      (h.1 c _ (mem_uc main_v108 (by decide))).trans (K_hist_x m g c),
      (h.1 c _ (mem_uc main_v112 (by decide))).trans (K_hist_w m g c),
      (h.1 c _ (mem_uc main_v116 (by decide))).trans (K_hist_dy m g c),
      (h.1 c _ (mem_uc main_v117 (by decide))).trans (K_xc m g c),
      (h.1 c _ (mem_uc main_v25 (by decide))).trans (K_xs m g c),
      (h.1 c _ (mem_uc main_v100_1 (by decide))).trans (K_wc m g c),
      (h.1 c _ (mem_uc main_v54 (by decide))).trans (K_ws m g c),
      (h.1 c _ (mem_uc main_v118 (by decide))).trans (K_dc m g c),
      (h.1 c _ (mem_uc main_v83 (by decide))).trans (K_ds m g c),
      (h.1 c _ (mem_uc main_arg0 (by decide))).trans (W12_main_arg0 m g c),
      (h.1 c _ (mem_uc main_arg1 (by decide))).trans (W12_main_arg1 m g c),
      (h.1 c _ (mem_uc main_arg2 (by decide))).trans (W12_main_arg2 m g c),
      (h.1 c _ (mem_uc main_arg3 (by decide))).trans (W12_main_arg3 m g c),
      (h.1 c _ (mem_uc main_arg4 (by decide))).trans (W12_main_arg4 m g c),
      (h.1 c _ (mem_uc main_arg5 (by decide))).trans (W12_main_arg5 m g c)⟩) (run_all m g)

end Kernel

section Reference
open Cert.ReferenceIdeal Cert.ReferenceIdeal.Gen

/-- A buffer of the reference that is no array of its call ends as the operations after the call leave it. -/
theorem reference_rest {m : (ℓ : Loc nD τ sig) → Buf (Elt Ideal) ℓ} {r : PUnit × MemSt nD τ sig (Elt Ideal)}
    (h : Pipeline.FramePost cfgs (dats m) 0 (Pipeline.afterTail₀ cfgs (dats m) 0 (V0 m) [hostOps1]) r) (c : Dev nD) (b : Ref sig .tc)
    (hs : b.isScoped = false) (ha : ∀ w, (spec0 w).arr.view.ref ≠ b) : r.2.mem ((c.tc : Thread nD τ).loc b) = E m c b :=
  (h c).2 b (Pipeline.mem_restRefs_of b hs ha)

/-- The reference runs, and ends with the same functions of its arguments, which are unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v68) = resY (R0 m c) (R1 m c) (R3 m c) (R4 m c)
      ∧ r.2.mem ((c.tc : Thread nD τ).loc main_v69) = resDx (R1 m c) (R2 m c) (R4 m c) (R5 m c)
      ∧ r.2.mem ((c.tc : Thread nD τ).loc main_v67) = resDw (R0 m c) (R2 m c) (R3 m c) (R5 m c)
      ∧ r.2.mem ((c.tc : Thread nD τ).loc main_v75) = resHistX (R0 m c) (R3 m c)
      ∧ r.2.mem ((c.tc : Thread nD τ).loc main_v80) = resHistW (R1 m c) (R4 m c)
      ∧ r.2.mem ((c.tc : Thread nD τ).loc main_v86) = resHistD (R2 m c) (R5 m c)
      ∧ r.2.mem ((c.tc : Thread nD τ).loc main_v87) = resXc (R0 m c) (R3 m c)
      ∧ r.2.mem ((c.tc : Thread nD τ).loc main_v13) = scaleOf (R3 m c) rcp4
      ∧ r.2.mem ((c.tc : Thread nD τ).loc main_v56_1) = allW (R1 m c) (R4 m c)
      ∧ r.2.mem ((c.tc : Thread nD τ).loc main_v30) = scaleOf (R4 m c) rcp4
      ∧ r.2.mem ((c.tc : Thread nD τ).loc main_v88) = resDc (R2 m c) (R5 m c)
      ∧ r.2.mem ((c.tc : Thread nD τ).loc main_v47) = scaleOf (R5 m c) rcp5) :=
  (θ_run (defs (F := Ideal)) _ _).mono (fun r h c =>
    ⟨(reference_rest h c main_v68 (by decide) (by decide)).trans (R_y m c),
      (reference_rest h c main_v69 (by decide) (by decide)).trans (R_dx m c),
      (reference_rest h c main_v67 (by decide) (by decide)).trans (R_dw m c),
      (reference_rest h c main_v75 (by decide) (by decide)).trans (R_hist_x m c),
      (reference_rest h c main_v80 (by decide) (by decide)).trans (R_hist_w m c),
      (reference_rest h c main_v86 (by decide) (by decide)).trans (R_hist_dy m c),
      (reference_rest h c main_v87 (by decide) (by decide)).trans (R_xc m c),
      (reference_rest h c main_v13 (by decide) (by decide)).trans (R_xs m c),
      ((h c).1 7).trans (R_wc m c),
      (reference_rest h c main_v30 (by decide) (by decide)).trans (R_ws m c),
      (reference_rest h c main_v88 (by decide) (by decide)).trans (R_dc m c),
      (reference_rest h c main_v47 (by decide) (by decide)).trans (R_ds m c)⟩) (run_main m g)

end Reference

/-- `Cert.algebraic_KernelIdeal_ReferenceIdeal`: from equal arguments both run, and all twelve results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, _, _, _, _, _, _, _, _, kernel_run m g, ?_⟩
  refine (θ_run (Cert.ReferenceIdeal.defs (F := Ideal)) _ _).mono (fun r h c => ?_)
    (θ_run_and (reference_run m' g') (Cert.ReferenceIdeal.Gen.unchanged (F := Ideal) m' g'))
  have a0 : R0 m' c = K0 m c := (hargs c).1
  have a1 : R1 m' c = K1 m c := (hargs c).2.1
  have a2 : R2 m' c = K2 m c := (hargs c).2.2.1
  have a3 : R3 m' c = K3 m c := (hargs c).2.2.2.1
  have a4 : R4 m' c = K4 m c := (hargs c).2.2.2.2.1
  have a5 : R5 m' c = K5 m c := (hargs c).2.2.2.2.2
  have v := h.1 c
  rw [a0, a1, a2, a3, a4, a5] at v
  exact ⟨v.1, v.2.1, v.2.2.1, v.2.2.2.1, v.2.2.2.2.1, v.2.2.2.2.2.1, v.2.2.2.2.2.2.1, v.2.2.2.2.2.2.2.1, v.2.2.2.2.2.2.2.2.1,
    v.2.2.2.2.2.2.2.2.2.1, v.2.2.2.2.2.2.2.2.2.2.1, v.2.2.2.2.2.2.2.2.2.2.2, h.2 c⟩

/-- Everything claimed. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, fun m g _ => Cert.ReferenceIdeal.Gen.frame m g,
    trivial, algebraic⟩

end Cert.Proof
